-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_history [hPre_normal_history : Cert.Pre_normal_history.Facts] (m : (ℓ : Loc Cert.KernelIdeal.nD Cert.KernelIdeal.τ Cert.KernelIdeal.sig) → Buf (Elt Ideal) ℓ) : Prop :=
  ∀ c : Dev Cert.KernelIdeal.nD,
    (Cert.Pre_normal_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_history [hPre_normal_history : Cert.Pre_normal_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal_history [hKernelIdeal : Cert.KernelIdeal.Facts] [hPre_normal_history : Cert.Pre_normal_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal_history [hReferenceIdeal : Cert.ReferenceIdeal.Facts] [hPre_normal_history : Cert.Pre_normal_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal_history [hKernelIdeal : Cert.KernelIdeal.Facts] [hReferenceIdeal : Cert.ReferenceIdeal.Facts] [hPre_normal_history : Cert.Pre_normal_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal_history : Cert.Pre_normal_history.Facts),
    quiescent_Kernel (hKernel := hKernel)
    ∧ quiescent_KernelIdeal (hKernelIdeal := hKernelIdeal)
    ∧ quiescent_KernelIdeal_pre_normal_history (hKernelIdeal := hKernelIdeal) (hPre_normal_history := hPre_normal_history)
    ∧ quiescent_ReferenceIdeal (hReferenceIdeal := hReferenceIdeal)
    ∧ quiescent_ReferenceIdeal_pre_normal_history (hReferenceIdeal := hReferenceIdeal) (hPre_normal_history := hPre_normal_history)
    ∧ preserves_Kernel_KernelIdeal
    ∧ algebraic_KernelIdeal_ReferenceIdeal_pre_normal_history (hKernelIdeal := hKernelIdeal) (hReferenceIdeal := hReferenceIdeal) (hPre_normal_history := hPre_normal_history)
-- ==== Pre_normal_history.lean ====
abbrev S16x2x128x7168 : Shape := ⟨4, ![16, 2, 128, 7168]⟩
abbrev S16x2x128 : Shape := ⟨3, ![16, 2, 128]⟩
abbrev S7168 : Shape := ⟨1, ![7168]⟩
abbrev S2x128x7168 : Shape := ⟨3, ![2, 128, 7168]⟩
abbrev S16 : Shape := ⟨1, ![16]⟩
abbrev S_ : Shape := ⟨0, ![]⟩

class Facts : Prop where
  reducesTo_S16_S_d0 : S16.ReducesTo [0] S_
  h_S_ : 0 < S_.numel
  bcast_S_S16 : S_.BroadcastsInDim S16 (![] : Fin 0 → Fin S16.rank)

variable [Facts]

def fn {F : FTy → Type} [FloatOps F] (main_arg0 : FVec F S16x2x128x7168 .fp8e4m3) (main_arg1 : FVec F S16x2x128 .f32) (main_arg2 : FVec F S7168 .f32) (main_arg3 : FVec F S2x128x7168 .bf16) (main_arg4 : FVec F S7168 .f32) (main_arg5 : FVec F S16 .f32) : IVec S_ 1 :=
  let main_cst : FVec F S_ .f32 := constant S_ .f32 0xFF800000#32
  let main_v0 : FVec F S_ .f32 := (fun x v => Host.reduce FloatOps.maximumf x v reducesTo_S16_S_d0 h_S_) main_arg5 main_cst
  let main_cst_0 : FVec F S_ .f32 := constant S_ .f32 0x3B124925#32
  let main_v1 : FVec F S_ .f32 := mulf main_v0 main_cst_0
  let main_v2 : FVec F S_ .f32 := Host.absf main_v1
  let main_v3 : FVec F S16 .f32 := Host.absf main_arg5
  let main_cst_1 : FVec F S_ .f32 := constant S_ .f32 0x7F7FFFFF#32
  let main_v4 : FVec F S16 .f32 := broadcastInDim S16 ![] bcast_S_S16 main_cst_1
  let main_v5 : IVec S16 1 := cmpf .ole main_v3 main_v4
  let main_c : IVec S_ 1 := constantI S_ 1 1#1
  let main_v6 : IVec S_ 1 := (fun x v => Host.reduce IntOp.andi x v reducesTo_S16_S_d0 h_S_) main_v5 main_c
  let main_cst_2 : FVec F S_ .f32 := constant S_ .f32 0x00000000#32
  let main_v7 : IVec S_ 1 := cmpf .oeq main_v2 main_cst_2
  let main_cst_3 : FVec F S_ .f32 := constant S_ .f32 0x00800000#32
  let main_v8 : IVec S_ 1 := cmpf .oge main_v2 main_cst_3
  let main_v9 : IVec S_ 1 := ori main_v7 main_v8
  let main_v10 : IVec S_ 1 := andi main_v6 main_v9
  main_v10
-- ==== Kernel.lean ====
abbrev S16x2x128x7168 : Shape := ⟨4, ![16, 2, 128, 7168]⟩
abbrev S16x2x128 : Shape := ⟨3, ![16, 2, 128]⟩
abbrev S7168 : Shape := ⟨1, ![7168]⟩
abbrev S2x128x7168 : Shape := ⟨3, ![2, 128, 7168]⟩
abbrev S16 : Shape := ⟨1, ![16]⟩
abbrev S1x7168 : Shape := ⟨2, ![1, 7168]⟩
abbrev S1x16 : Shape := ⟨2, ![1, 16]⟩
abbrev S1x1 : Shape := ⟨2, ![1, 1]⟩
abbrev S4x16x32x7168 : Shape := ⟨4, ![4, 16, 32, 7168]⟩
abbrev S4x32x7168 : Shape := ⟨3, ![4, 32, 7168]⟩
abbrev S8x32x7168 : Shape := ⟨3, ![8, 32, 7168]⟩
abbrev S256x512 : Shape := ⟨2, ![256, 512]⟩
abbrev S32x128 : Shape := ⟨2, ![32, 128]⟩
abbrev S4 : Shape := ⟨1, ![4]⟩
abbrev S3 : Shape := ⟨1, ![3]⟩
abbrev S_ : Shape := ⟨0, ![]⟩
abbrev S1 : Shape := ⟨1, ![1]⟩
abbrev S1x32x7168 : Shape := ⟨3, ![1, 32, 7168]⟩
abbrev S32x7168 : Shape := ⟨2, ![32, 7168]⟩
abbrev S1x16x32x7168 : Shape := ⟨4, ![1, 16, 32, 7168]⟩
abbrev S16x32x7168 : Shape := ⟨3, ![16, 32, 7168]⟩
abbrev S16x1x32x7168 : Shape := ⟨4, ![16, 1, 32, 7168]⟩
abbrev S16x512 : Shape := ⟨2, ![16, 512]⟩
abbrev S128x512 : Shape := ⟨2, ![128, 512]⟩
abbrev S16x1x128 : Shape := ⟨3, ![16, 1, 128]⟩
abbrev S16x128 : Shape := ⟨2, ![16, 128]⟩
abbrev S1x255 : Shape := ⟨2, ![1, 255]⟩
abbrev S32x512 : Shape := ⟨2, ![32, 512]⟩
abbrev S1x16x32x1024 : Shape := ⟨4, ![1, 16, 32, 1024]⟩
abbrev S16x32x1024 : Shape := ⟨3, ![16, 32, 1024]⟩
abbrev S512x1024 : Shape := ⟨2, ![512, 1024]⟩
abbrev S32x1024 : Shape := ⟨2, ![32, 1024]⟩
abbrev S1x1024 : Shape := ⟨2, ![1, 1024]⟩
abbrev S1x32x1024 : Shape := ⟨3, ![1, 32, 1024]⟩
abbrev S32 : Shape := ⟨1, ![32]⟩
abbrev S32x1 : Shape := ⟨2, ![32, 1]⟩
abbrev S1x32x128 : Shape := ⟨3, ![1, 32, 128]⟩
abbrev S1x1x1 : Shape := ⟨3, ![1, 1, 1]⟩
abbrev S1x15 : Shape := ⟨2, ![1, 15]⟩

abbrev nBuf : Space → Nat
  | .hbm => 14
  | .vmem => 13
  | .smem => 0
  | _ => 0

abbrev bufTy : (tb : Table) → Fin (tcTables nBuf tb) → BufTy
  | .hbm, ⟨0, _⟩ => ⟨S16x2x128x7168, .fp8e4m3⟩
  | .hbm, ⟨1, _⟩ => ⟨S16x2x128, .f32⟩
  | .hbm, ⟨2, _⟩ => ⟨S7168, .f32⟩
  | .hbm, ⟨3, _⟩ => ⟨S2x128x7168, .bf16⟩
  | .hbm, ⟨4, _⟩ => ⟨S7168, .f32⟩
  | .hbm, ⟨5, _⟩ => ⟨S16, .f32⟩
  | .hbm, ⟨6, _⟩ => ⟨S1x7168, .f32⟩
  | .hbm, ⟨7, _⟩ => ⟨S1x7168, .f32⟩
  | .hbm, ⟨8, _⟩ => ⟨S1x16, .f32⟩
  | .hbm, ⟨9, _⟩ => ⟨S2x128x7168, .bf16⟩
  | .hbm, ⟨10, _⟩ => ⟨S1x1, .f32⟩
  | .hbm, ⟨11, _⟩ => ⟨S1x16, .f32⟩
  | .hbm, ⟨12, _⟩ => ⟨S2x128x7168, .fp8e4m3⟩
  | .hbm, ⟨13, _⟩ => ⟨S1x1, .f32⟩
  | .local _ .vmem, ⟨0, _⟩ => ⟨S4x16x32x7168, .fp8e4m3⟩
  | .local _ .vmem, ⟨1, _⟩ => ⟨S4x32x7168, .bf16⟩
  | .local _ .vmem, ⟨2, _⟩ => ⟨S8x32x7168, .bf16⟩
  | .local _ .vmem, ⟨3, _⟩ => ⟨S8x32x7168, .fp8e4m3⟩
  | .local _ .vmem, ⟨4, _⟩ => ⟨S16x2x128, .f32⟩
  | .local _ .vmem, ⟨5, _⟩ => ⟨S1x7168, .f32⟩
  | .local _ .vmem, ⟨6, _⟩ => ⟨S1x7168, .f32⟩
  | .local _ .vmem, ⟨7, _⟩ => ⟨S1x16, .f32⟩
  | .local _ .vmem, ⟨8, _⟩ => ⟨S256x512, .bf16⟩
  | .local _ .vmem, ⟨9, _⟩ => ⟨S32x128, .f32⟩
  | .local _ .vmem, ⟨10, _⟩ => ⟨S1x1, .f32⟩
  | .local _ .vmem, ⟨11, _⟩ => ⟨S1x16, .f32⟩
  | .local _ .vmem, ⟨12, _⟩ => ⟨S1x1, .f32⟩
  | _, _ => ⟨S16x2x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [FloatOps F]

abbrev grid0 : Pipeline.Grid := .none

@[reducible] def k0_t1_loop : Scf.Loop 32 :=
  let c0_i32_111 : BitVec 32 := 0#32
  let c8_i32 : BitVec 32 := 8#32
  let v194 : BitVec 32 := Scalar.addi c0_i32_111 c8_i32
  let c1_i32_112 : BitVec 32 := 1#32
  ⟨c0_i32_111, v194, c1_i32_112⟩
def k0_off1 (k0_t1 : Fin k0_t1_loop.trips) : Fin 1 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  ![v283.toNat]
def k0_off2 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let c0_i32_235 : BitVec 32 := 0#32
  let c0_i32_236 : BitVec 32 := 0#32
  ![v283.toNat, 0, 0]
def k0_off3 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c0_i32_222 : BitVec 32 := 0#32
  let v285 : BitVec 1 := Scalar.cmpi .sgt arg29 c0_i32_222
  let v286 : BitVec 32 := Scalar.extui v285
  let c0_i32_223 : BitVec 32 := 0#32
  let v287 : BitVec 1 := Scalar.cmpi .slt arg29 c0_i32_223
  let v288 : BitVec 32 := Scalar.extui v287
  let v289 : BitVec 32 := Scalar.subi v286 v288
  let c4_i32_221 : BitVec 32 := 4#32
  let c0_i32_224 : BitVec 32 := 0#32
  let v290 : BitVec 1 := Scalar.cmpi .sgt c4_i32_221 c0_i32_224
  let v291 : BitVec 32 := Scalar.extui v290
  let c0_i32_225 : BitVec 32 := 0#32
  let v292 : BitVec 1 := Scalar.cmpi .slt c4_i32_221 c0_i32_225
  let v293 : BitVec 32 := Scalar.extui v292
  let v294 : BitVec 32 := Scalar.subi v291 v293
  let v295 : BitVec 1 := Scalar.cmpi .ne v289 v294
  let v296 : BitVec 32 := Scalar.remsi arg29 c4_i32_221
  let c0_i32_226 : BitVec 32 := 0#32
  let v297 : BitVec 1 := Scalar.cmpi .ne v296 c0_i32_226
  let v298 : BitVec 1 := Scalar.andi v295 v297
  let v284 : BitVec 32 := Scalar.divsi arg29 c4_i32_221
  let c1_i32_227 : BitVec 32 := 1#32
  let v299 : BitVec 32 := Scalar.subi v284 c1_i32_227
  let v300 : BitVec 32 := Scalar.select v298 v299 v284
  let c4_i32_228 : BitVec 32 := 4#32
  let c0_i32_229 : BitVec 32 := 0#32
  let v301 : BitVec 1 := Scalar.cmpi .eq c4_i32_228 c0_i32_229
  let c1_i32_230 : BitVec 32 := 1#32
  let v302 : BitVec 32 := Scalar.select v301 c1_i32_230 c4_i32_228
  let v303 : BitVec 32 := Scalar.remsi arg29 v302
  let c0_i32_232 : BitVec 32 := 0#32
  let v305 : BitVec 1 := Scalar.cmpi .slt v303 c0_i32_232
  let c0_i32_233 : BitVec 32 := 0#32
  let v306 : BitVec 1 := Scalar.cmpi .slt v302 c0_i32_233
  let v307 : BitVec 1 := Scalar.xori v305 v306
  let c0_i32_231 : BitVec 32 := 0#32
  let v304 : BitVec 1 := Scalar.cmpi .ne v303 c0_i32_231
  let v308 : BitVec 1 := Scalar.andi v307 v304
  let v309 : BitVec 32 := Scalar.addi v303 v302
  let v310 : BitVec 32 := Scalar.select v308 v309 v303
  let c32_i32_234 : BitVec 32 := 32#32
  let v311 : BitVec 32 := Scalar.muli v310 c32_i32_234
  let c0_i32_237 : BitVec 32 := 0#32
  ![v300.toNat, v311.toNat, 0]
def k0_off4 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let c0_i32_252 : BitVec 32 := 0#32
  let c0_i32_253 : BitVec 32 := 0#32
  let c0_i32_254 : BitVec 32 := 0#32
  ![v283.toNat, 0, 0, 0]
def k0_off5 (k0_t1 : Fin k0_t1_loop.trips) : Fin 4 → Nat :=
  let c0_i32_255 : BitVec 32 := 0#32
  let c0_i32_111 : BitVec 32 := 0#32
  let c1_i32_112 : BitVec 32 := 1#32
  let arg29 : BitVec 32 := Scf.iv c0_i32_111 c1_i32_112 k0_t1
  let c0_i32_239 : BitVec 32 := 0#32
  let v319 : BitVec 1 := Scalar.cmpi .sgt arg29 c0_i32_239
  let v320 : BitVec 32 := Scalar.extui v319
  let c0_i32_240 : BitVec 32 := 0#32
  let v321 : BitVec 1 := Scalar.cmpi .slt arg29 c0_i32_240
  let v322 : BitVec 32 := Scalar.extui v321
  let v323 : BitVec 32 := Scalar.subi v320 v322
  let c4_i32_238 : BitVec 32 := 4#32
  let c0_i32_241 : BitVec 32 := 0#32
  let v324 : BitVec 1 := Scalar.cmpi .sgt c4_i32_238 c0_i32_241
  let v325 : BitVec 32 := Scalar.extui v324
  let c0_i32_242 : BitVec 32 := 0#32
  let v326 : BitVec 1 := Scalar.cmpi .slt c4_i32_238 c0_i32_242
  let v327 : BitVec 32 := Scalar.extui v326
  let v328 : BitVec 32 := Scalar.subi v325 v327
  let v329 : BitVec 1 := Scalar.cmpi .ne v323 v328
  let v330 : BitVec 32 := Scalar.remsi arg29 c4_i32_238
  let c0_i32_243 : BitVec 32 := 0#32
  let v331 : BitVec 1 := Scalar.cmpi .ne v330 c0_i32_243
  let v332 : BitVec 1 := Scalar.andi v329 v331
  let v318 : BitVec 32 := Scalar.divsi arg29 c4_i32_238
  let c1_i32_244 : BitVec 32 := 1#32
  let v333 : BitVec 32 := Scalar.subi v318 c1_i32_244
  let v334 : BitVec 32 := Scalar.select v332 v333 v318
  let c4_i32_245 : BitVec 32 := 4#32
  let c0_i32_246 : BitVec 32 := 0#32
  let v335 : BitVec 1 := Scalar.cmpi .eq c4_i32_245 c0_i32_246
  let c1_i32_247 : BitVec 32 := 1#32
  let v336 : BitVec 32 := Scalar.select v335 c1_i32_247 c4_i32_245
  let v337 : BitVec 32 := Scalar.remsi arg29 v336
  let c0_i32_249 : BitVec 32 := 0#32
  let v339 : BitVec 1 := Scalar.cmpi .slt v337 c0_i32_249
  let c0_i32_250 : BitVec 32 := 0#32
  let v340 : BitVec 1 := Scalar.cmpi .slt v336 c0_i32_250
  let v341 : BitVec 1 := Scalar.xori v339 v340
  let c0_i32_248 : BitVec 32 := 0#32
  let v338 : BitVec 1 := Scalar.cmpi .ne v337 c0_i32_248
  let v342 : BitVec 1 := Scalar.andi v341 v338
  let v343 : BitVec 32 := Scalar.addi v337 v336
  let v344 : BitVec 32 := Scalar.select v342 v343 v337
  let c32_i32_251 : BitVec 32 := 32#32
  let v345 : BitVec 32 := Scalar.muli v344 c32_i32_251
  let c0_i32_256 : BitVec 32 := 0#32
  ![0, v334.toNat, v345.toNat, 0]
def k0_mult1 (k0_t1 : Fin k0_t1_loop.trips) : BitVec 32 :=
  let c0_i32_111 : BitVec 32 := 0#32
  let c1_i32_112 : BitVec 32 := 1#32
  let arg29 : BitVec 32 := Scf.iv c0_i32_111 c1_i32_112 k0_t1
  let c32_i32_257 : BitVec 32 := 32#32
  let v352 : BitVec 32 := Scalar.muli arg29 c32_i32_257
  v352
def k0_off6 (k0_t1 : Fin k0_t1_loop.trips) : Fin 2 → Nat :=
  let c0_i32_111 : BitVec 32 := 0#32
  let c1_i32_112 : BitVec 32 := 1#32
  let arg29 : BitVec 32 := Scf.iv c0_i32_111 c1_i32_112 k0_t1
  let c32_i32_257 : BitVec 32 := 32#32
  let v352 : BitVec 32 := Scalar.muli arg29 c32_i32_257
  let v353 : BitVec 32 := v352
  let v354 : Index := Scalar.indexCast v353
  let c0_258 : Index := 0#32
  ![v354.toNat, 0]
def k0_off7 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v357 : Index := Scalar.indexCast v283
  let c0_260 : Index := 0#32
  let c0_261 : Index := 0#32
  let c0_262 : Index := 0#32
  ![v357.toNat, 0, 0, 0]
def k0_off8 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v365 : Index := Scalar.indexCast v283
  let c0_266 : Index := 0#32
  let c0_267 : Index := 0#32
  ![v365.toNat, 0, 0]
def k0_off9 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v371 : Index := Scalar.indexCast arg29
  let c0_268 : Index := 0#32
  let c0_269 : Index := 0#32
  ![v371.toNat, 0, 0]
def k0_off10 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v408 : Index := Scalar.indexCast v283
  let c0_270 : Index := 0#32
  let c0_271 : Index := 0#32
  let c1024 : Index := 1024#32
  ![v408.toNat, 0, 0, 1024]
def k0_off11 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v416 : Index := Scalar.indexCast v283
  let c0_275 : Index := 0#32
  let c1024_276 : Index := 1024#32
  ![v416.toNat, 0, 1024]
def k0_off12 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v422 : Index := Scalar.indexCast arg29
  let c0_277 : Index := 0#32
  let c1024_278 : Index := 1024#32
  ![v422.toNat, 0, 1024]
def k0_off13 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v459 : Index := Scalar.indexCast v283
  let c0_279 : Index := 0#32
  let c0_280 : Index := 0#32
  let c2048 : Index := 2048#32
  ![v459.toNat, 0, 0, 2048]
def k0_off14 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v467 : Index := Scalar.indexCast v283
  let c0_284 : Index := 0#32
  let c2048_285 : Index := 2048#32
  ![v467.toNat, 0, 2048]
def k0_off15 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v473 : Index := Scalar.indexCast arg29
  let c0_286 : Index := 0#32
  let c2048_287 : Index := 2048#32
  ![v473.toNat, 0, 2048]
def k0_off16 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v510 : Index := Scalar.indexCast v283
  let c0_288 : Index := 0#32
  let c0_289 : Index := 0#32
  let c3072 : Index := 3072#32
  ![v510.toNat, 0, 0, 3072]
def k0_off17 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v518 : Index := Scalar.indexCast v283
  let c0_293 : Index := 0#32
  let c3072_294 : Index := 3072#32
  ![v518.toNat, 0, 3072]
def k0_off18 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v524 : Index := Scalar.indexCast arg29
  let c0_295 : Index := 0#32
  let c3072_296 : Index := 3072#32
  ![v524.toNat, 0, 3072]
def k0_off19 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v561 : Index := Scalar.indexCast v283
  let c0_297 : Index := 0#32
  let c0_298 : Index := 0#32
  let c4096 : Index := 4096#32
  ![v561.toNat, 0, 0, 4096]
def k0_off20 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v569 : Index := Scalar.indexCast v283
  let c0_302 : Index := 0#32
  let c4096_303 : Index := 4096#32
  ![v569.toNat, 0, 4096]
def k0_off21 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v575 : Index := Scalar.indexCast arg29
  let c0_304 : Index := 0#32
  let c4096_305 : Index := 4096#32
  ![v575.toNat, 0, 4096]
def k0_off22 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v612 : Index := Scalar.indexCast v283
  let c0_306 : Index := 0#32
  let c0_307 : Index := 0#32
  let c5120 : Index := 5120#32
  ![v612.toNat, 0, 0, 5120]
def k0_off23 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v620 : Index := Scalar.indexCast v283
  let c0_311 : Index := 0#32
  let c5120_312 : Index := 5120#32
  ![v620.toNat, 0, 5120]
def k0_off24 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v626 : Index := Scalar.indexCast arg29
  let c0_313 : Index := 0#32
  let c5120_314 : Index := 5120#32
  ![v626.toNat, 0, 5120]
def k0_off25 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v663 : Index := Scalar.indexCast v283
  let c0_315 : Index := 0#32
  let c0_316 : Index := 0#32
  let c6144 : Index := 6144#32
  ![v663.toNat, 0, 0, 6144]
def k0_off26 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let v671 : Index := Scalar.indexCast v283
  let c0_320 : Index := 0#32
  let c6144_321 : Index := 6144#32
  ![v671.toNat, 0, 6144]
def k0_off27 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let v677 : Index := Scalar.indexCast arg29
  let c0_322 : Index := 0#32
  let c6144_323 : Index := 6144#32
  ![v677.toNat, 0, 6144]
def k0_off28 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c0_i32_402 : BitVec 32 := 0#32
  let c0_i32_403 : BitVec 32 := 0#32
  ![arg29.toNat, 0, 0]
def k0_cond1 (k0_t1 : Fin k0_t1_loop.trips) : BitVec 1 :=
  let c0_i32_111 : BitVec 32 := 0#32
  let c1_i32_112 : BitVec 32 := 1#32
  let arg29 : BitVec 32 := Scf.iv c0_i32_111 c1_i32_112 k0_t1
  let c4_i32_407 : BitVec 32 := 4#32
  let v1020 : BitVec 32 := Scalar.addi arg29 c4_i32_407
  let c8_i32_408 : BitVec 32 := 8#32
  let v1021 : BitVec 1 := Scalar.cmpi .slt v1020 c8_i32_408
  let v1022 : BitVec 32 := Scalar.extui v1021
  let c0_i32_409 : BitVec 32 := 0#32
  let v1023 : BitVec 1 := Scalar.cmpi .ne v1022 c0_i32_409
  v1023

def k0_off29 (k0_t1 : Fin k0_t1_loop.trips) : Fin 1 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  ![v283.toNat]
def k0_off30 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let c0_i32_425 : BitVec 32 := 0#32
  let c0_i32_426 : BitVec 32 := 0#32
  ![v283.toNat, 0, 0]
def k0_off31 (k0_t1 : Fin k0_t1_loop.trips) : Fin 3 → Nat :=
  let c0_i32_111 : BitVec 32 := 0#32
  let c1_i32_112 : BitVec 32 := 1#32
  let arg29 : BitVec 32 := Scf.iv c0_i32_111 c1_i32_112 k0_t1
  let c4_i32_410 : BitVec 32 := 4#32
  let v1024 : BitVec 32 := Scalar.addi arg29 c4_i32_410
  let c0_i32_412 : BitVec 32 := 0#32
  let v1026 : BitVec 1 := Scalar.cmpi .sgt v1024 c0_i32_412
  let v1027 : BitVec 32 := Scalar.extui v1026
  let c0_i32_413 : BitVec 32 := 0#32
  let v1028 : BitVec 1 := Scalar.cmpi .slt v1024 c0_i32_413
  let v1029 : BitVec 32 := Scalar.extui v1028
  let v1030 : BitVec 32 := Scalar.subi v1027 v1029
  let c4_i32_411 : BitVec 32 := 4#32
  let c0_i32_414 : BitVec 32 := 0#32
  let v1031 : BitVec 1 := Scalar.cmpi .sgt c4_i32_411 c0_i32_414
  let v1032 : BitVec 32 := Scalar.extui v1031
  let c0_i32_415 : BitVec 32 := 0#32
  let v1033 : BitVec 1 := Scalar.cmpi .slt c4_i32_411 c0_i32_415
  let v1034 : BitVec 32 := Scalar.extui v1033
  let v1035 : BitVec 32 := Scalar.subi v1032 v1034
  let v1036 : BitVec 1 := Scalar.cmpi .ne v1030 v1035
  let v1037 : BitVec 32 := Scalar.remsi v1024 c4_i32_411
  let c0_i32_416 : BitVec 32 := 0#32
  let v1038 : BitVec 1 := Scalar.cmpi .ne v1037 c0_i32_416
  let v1039 : BitVec 1 := Scalar.andi v1036 v1038
  let v1025 : BitVec 32 := Scalar.divsi v1024 c4_i32_411
  let c1_i32_417 : BitVec 32 := 1#32
  let v1040 : BitVec 32 := Scalar.subi v1025 c1_i32_417
  let v1041 : BitVec 32 := Scalar.select v1039 v1040 v1025
  let c4_i32_418 : BitVec 32 := 4#32
  let c0_i32_419 : BitVec 32 := 0#32
  let v1042 : BitVec 1 := Scalar.cmpi .eq c4_i32_418 c0_i32_419
  let c1_i32_420 : BitVec 32 := 1#32
  let v1043 : BitVec 32 := Scalar.select v1042 c1_i32_420 c4_i32_418
  let v1044 : BitVec 32 := Scalar.remsi v1024 v1043
  let c0_i32_422 : BitVec 32 := 0#32
  let v1046 : BitVec 1 := Scalar.cmpi .slt v1044 c0_i32_422
  let c0_i32_423 : BitVec 32 := 0#32
  let v1047 : BitVec 1 := Scalar.cmpi .slt v1043 c0_i32_423
  let v1048 : BitVec 1 := Scalar.xori v1046 v1047
  let c0_i32_421 : BitVec 32 := 0#32
  let v1045 : BitVec 1 := Scalar.cmpi .ne v1044 c0_i32_421
  let v1049 : BitVec 1 := Scalar.andi v1048 v1045
  let v1050 : BitVec 32 := Scalar.addi v1044 v1043
  let v1051 : BitVec 32 := Scalar.select v1049 v1050 v1044
  let c32_i32_424 : BitVec 32 := 32#32
  let v1052 : BitVec 32 := Scalar.muli v1051 c32_i32_424
  let c0_i32_427 : BitVec 32 := 0#32
  ![v1041.toNat, v1052.toNat, 0]
def k0_off32 (k0_t1 : Fin k0_t1_loop.trips) : Fin 4 → Nat :=
  let c0_i32_111 : BitVec 32 := 0#32
  let c1_i32_112 : BitVec 32 := 1#32
  let arg29 : BitVec 32 := Scf.iv c0_i32_111 c1_i32_112 k0_t1
  let c4_i32_220 : BitVec 32 := 4#32
  let v283 : BitVec 32 := Scalar.remsi arg29 c4_i32_220
  let c0_i32_443 : BitVec 32 := 0#32
  let c0_i32_444 : BitVec 32 := 0#32
  let c0_i32_445 : BitVec 32 := 0#32
  ![v283.toNat, 0, 0, 0]
def k0_off33 (k0_t1 : Fin k0_t1_loop.trips) : Fin 4 → Nat :=
  let c0_i32_446 : BitVec 32 := 0#32
  let c0_i32_111 : BitVec 32 := 0#32
  let c1_i32_112 : BitVec 32 := 1#32
  let arg29 : BitVec 32 := Scf.iv c0_i32_111 c1_i32_112 k0_t1
  let c4_i32_428 : BitVec 32 := 4#32
  let v1059 : BitVec 32 := Scalar.addi arg29 c4_i32_428
  let c0_i32_430 : BitVec 32 := 0#32
  let v1061 : BitVec 1 := Scalar.cmpi .sgt v1059 c0_i32_430
  let v1062 : BitVec 32 := Scalar.extui v1061
  let c0_i32_431 : BitVec 32 := 0#32
  let v1063 : BitVec 1 := Scalar.cmpi .slt v1059 c0_i32_431
  let v1064 : BitVec 32 := Scalar.extui v1063
  let v1065 : BitVec 32 := Scalar.subi v1062 v1064
  let c4_i32_429 : BitVec 32 := 4#32
  let c0_i32_432 : BitVec 32 := 0#32
  let v1066 : BitVec 1 := Scalar.cmpi .sgt c4_i32_429 c0_i32_432
  let v1067 : BitVec 32 := Scalar.extui v1066
  let c0_i32_433 : BitVec 32 := 0#32
  let v1068 : BitVec 1 := Scalar.cmpi .slt c4_i32_429 c0_i32_433
  let v1069 : BitVec 32 := Scalar.extui v1068
  let v1070 : BitVec 32 := Scalar.subi v1067 v1069
  let v1071 : BitVec 1 := Scalar.cmpi .ne v1065 v1070
  let v1072 : BitVec 32 := Scalar.remsi v1059 c4_i32_429
  let c0_i32_434 : BitVec 32 := 0#32
  let v1073 : BitVec 1 := Scalar.cmpi .ne v1072 c0_i32_434
  let v1074 : BitVec 1 := Scalar.andi v1071 v1073
  let v1060 : BitVec 32 := Scalar.divsi v1059 c4_i32_429
  let c1_i32_435 : BitVec 32 := 1#32
  let v1075 : BitVec 32 := Scalar.subi v1060 c1_i32_435
  let v1076 : BitVec 32 := Scalar.select v1074 v1075 v1060
  let c4_i32_436 : BitVec 32 := 4#32
  let c0_i32_437 : BitVec 32 := 0#32
  let v1077 : BitVec 1 := Scalar.cmpi .eq c4_i32_436 c0_i32_437
  let c1_i32_438 : BitVec 32 := 1#32
  let v1078 : BitVec 32 := Scalar.select v1077 c1_i32_438 c4_i32_436
  let v1079 : BitVec 32 := Scalar.remsi v1059 v1078
  let c0_i32_440 : BitVec 32 := 0#32
  let v1081 : BitVec 1 := Scalar.cmpi .slt v1079 c0_i32_440
  let c0_i32_441 : BitVec 32 := 0#32
  let v1082 : BitVec 1 := Scalar.cmpi .slt v1078 c0_i32_441
  let v1083 : BitVec 1 := Scalar.xori v1081 v1082
  let c0_i32_439 : BitVec 32 := 0#32
  let v1080 : BitVec 1 := Scalar.cmpi .ne v1079 c0_i32_439
  let v1084 : BitVec 1 := Scalar.andi v1083 v1080
  let v1085 : BitVec 32 := Scalar.addi v1079 v1078
  let v1086 : BitVec 32 := Scalar.select v1084 v1085 v1079
  let c32_i32_442 : BitVec 32 := 32#32
  let v1087 : BitVec 32 := Scalar.muli v1086 c32_i32_442
  let c0_i32_447 : BitVec 32 := 0#32
  ![0, v1076.toNat, v1087.toNat, 0]
-- ==== ReferenceIdeal.lean ====
abbrev S16x2x128x7168 : Shape := ⟨4, ![16, 2, 128, 7168]⟩
abbrev S16x2x128 : Shape := ⟨3, ![16, 2, 128]⟩
abbrev S7168 : Shape := ⟨1, ![7168]⟩
abbrev S2x128x7168 : Shape := ⟨3, ![2, 128, 7168]⟩
abbrev S16 : Shape := ⟨1, ![16]⟩
abbrev S1x7168 : Shape := ⟨2, ![1, 7168]⟩
abbrev S1x16 : Shape := ⟨2, ![1, 16]⟩
abbrev S1x1 : Shape := ⟨2, ![1, 1]⟩
abbrev S16x2x128x1 : Shape := ⟨4, ![16, 2, 128, 1]⟩
abbrev S1x1x7168 : Shape := ⟨3, ![1, 1, 7168]⟩
abbrev S2x128 : Shape := ⟨2, ![2, 128]⟩
abbrev S2x128x1 : Shape := ⟨3, ![2, 128, 1]⟩
abbrev S1x2x128x7168 : Shape := ⟨4, ![1, 2, 128, 7168]⟩
abbrev S1 : Shape := ⟨1, ![1]⟩
abbrev S1x1x1x1 : Shape := ⟨4, ![1, 1, 1, 1]⟩
abbrev S1x1x1 : Shape := ⟨3, ![1, 1, 1]⟩
abbrev S1x15 : Shape := ⟨2, ![1, 15]⟩
abbrev S1x256 : Shape := ⟨2, ![1, 256]⟩

abbrev nBuf : Space → Nat
  | .hbm => 14
  | .vmem => 11
  | .smem => 0
  | _ => 0

abbrev bufTy : (tb : Table) → Fin (tcTables nBuf tb) → BufTy
  | .hbm, ⟨0, _⟩ => ⟨S16x2x128x7168, .fp8e4m3⟩
  | .hbm, ⟨1, _⟩ => ⟨S16x2x128, .f32⟩
  | .hbm, ⟨2, _⟩ => ⟨S7168, .f32⟩
  | .hbm, ⟨3, _⟩ => ⟨S2x128x7168, .bf16⟩
  | .hbm, ⟨4, _⟩ => ⟨S7168, .f32⟩
  | .hbm, ⟨5, _⟩ => ⟨S16, .f32⟩
  | .hbm, ⟨6, _⟩ => ⟨S1x7168, .f32⟩
  | .hbm, ⟨7, _⟩ => ⟨S1x7168, .f32⟩
  | .hbm, ⟨8, _⟩ => ⟨S1x16, .f32⟩
  | .hbm, ⟨9, _⟩ => ⟨S2x128x7168, .bf16⟩
  | .hbm, ⟨10, _⟩ => ⟨S1x1, .f32⟩
  | .hbm, ⟨11, _⟩ => ⟨S1x16, .f32⟩
  | .hbm, ⟨12, _⟩ => ⟨S2x128x7168, .fp8e4m3⟩
  | .hbm, ⟨13, _⟩ => ⟨S1x1, .f32⟩
  | .local _ .vmem, ⟨0, _⟩ => ⟨S16x2x128x7168, .fp8e4m3⟩
  | .local _ .vmem, ⟨1, _⟩ => ⟨S16x2x128, .f32⟩
  | .local _ .vmem, ⟨2, _⟩ => ⟨S1x7168, .f32⟩
  | .local _ .vmem, ⟨3, _⟩ => ⟨S2x128x7168, .bf16⟩
  | .local _ .vmem, ⟨4, _⟩ => ⟨S1x7168, .f32⟩
  | .local _ .vmem, ⟨5, _⟩ => ⟨S1x16, .f32⟩
  | .local _ .vmem, ⟨6, _⟩ => ⟨S2x128x7168, .bf16⟩
  | .local _ .vmem, ⟨7, _⟩ => ⟨S1x1, .f32⟩
  | .local _ .vmem, ⟨8, _⟩ => ⟨S1x16, .f32⟩
  | .local _ .vmem, ⟨9, _⟩ => ⟨S2x128x7168, .fp8e4m3⟩
  | .local _ .vmem, ⟨10, _⟩ => ⟨S1x1, .f32⟩
  | _, _ => ⟨S16x2x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x2x128x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Names.lean ====
/-
  The names the run of the kernel body is told in: the eight groups of 32 rows of the inputs and outputs, the four
  slots of the two input rings, the semaphore cells; the offsets the loop computes in closed form; and the equations
  that rewrite the program's slices to these names.
-/
module

public import proofs.«01_k».proof.Defs
public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.FrameValue
public import Idealize.ShloMosaic.Lib.MixedBatch
public import Idealize.ShloMosaic.Lib.Ring
public import Idealize.ShloMosaic.Lib.Tactic

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

abbrev aParts : Memref sig .tc .hbm S16x2x128x7168 .fp8e4m3 := Memref.whole main_arg0
abbrev aScales : Memref sig .tc .hbm S16x2x128 .f32 := Memref.whole main_arg1
abbrev aBias : Memref sig .tc .hbm S1x7168 .f32 := Memref.whole main_v0
abbrev aX : Memref sig .tc .hbm S2x128x7168 .bf16 := Memref.whole main_arg3
abbrev aGain : Memref sig .tc .hbm S1x7168 .f32 := Memref.whole main_v1
abbrev aHist : Memref sig .tc .hbm S1x16 .f32 := Memref.whole main_v2
abbrev oRes : Memref sig .tc .hbm S2x128x7168 .bf16 := Memref.whole main_v3_0
abbrev oAmax : Memref sig .tc .hbm S1x1 .f32 := Memref.whole main_v3_1
abbrev oHist : Memref sig .tc .hbm S1x16 .f32 := Memref.whole main_v3_2
abbrev oCodes : Memref sig .tc .hbm S2x128x7168 .fp8e4m3 := Memref.whole main_v3_3
abbrev oScale : Memref sig .tc .hbm S1x1 .f32 := Memref.whole main_v3_4
abbrev bParts : Memref sig .tc .vmem S4x16x32x7168 .fp8e4m3 := Memref.whole cc0_scratch0
abbrev bX : Memref sig .tc .vmem S4x32x7168 .bf16 := Memref.whole cc0_scratch1
abbrev bRes : Memref sig .tc .vmem S8x32x7168 .bf16 := Memref.whole cc0_scratch2
abbrev bCodes : Memref sig .tc .vmem S8x32x7168 .fp8e4m3 := Memref.whole cc0_scratch3
abbrev bScales : Memref sig .tc .vmem S16x2x128 .f32 := Memref.whole cc0_scratch4
abbrev bBias : Memref sig .tc .vmem S1x7168 .f32 := Memref.whole cc0_scratch5
abbrev bGain : Memref sig .tc .vmem S1x7168 .f32 := Memref.whole cc0_scratch6
abbrev bHist : Memref sig .tc .vmem S1x16 .f32 := Memref.whole cc0_scratch7
abbrev bLhs : Memref sig .tc .vmem S256x512 .bf16 := Memref.whole cc0_scratch8
abbrev bAcc : Memref sig .tc .vmem S32x128 .f32 := Memref.whole cc0_scratch9
abbrev bAmax : Memref sig .tc .vmem S1x1 .f32 := Memref.whole cc0_scratch10
abbrev bNewHist : Memref sig .tc .vmem S1x16 .f32 := Memref.whole cc0_scratch11
abbrev bScale : Memref sig .tc .vmem S1x1 .f32 := Memref.whole cc0_scratch12

/-! ## Groups, slots and cells -/

/-- A trip of the loop as a group. -/
theorem trips_eq : k0_t1_loop.trips = 8 := by decide
def gi (k : Fin k0_t1_loop.trips) : Fin 8 := ⟨k.val, Nat.lt_of_lt_of_eq k.isLt trips_eq⟩
/-- The group four trips on. -/
def gi4 (k : Fin k0_t1_loop.trips) (h : k.val < 4) : Fin 8 := ⟨k.val + 4, by omega⟩
/-- The ring slot of group `g`. -/
def sl (g : Fin 8) : Fin 4 := ⟨g.val % 4, Nat.mod_lt _ (by decide)⟩

/-- Group `g`'s corner in a `[2, 128, 7168]` array: batch `g / 4`, rows from `32 (g % 4)`. -/
def grpOff (g : Fin 8) : Fin 3 → Nat := ![g.val / 4, 32 * (g.val % 4), 0]
theorem grpOff_inb (g : Fin 8) : ∀ a, grpOff g a + S1x32x7168.size a ≤ S2x128x7168.size a := by
  have := g.isLt; intro a; fin_cases a
  · show g.val / 4 + 1 ≤ 2; omega
  · show 32 * (g.val % 4) + 32 ≤ 128; omega
  · show 0 + 7168 ≤ 7168; omega
/-- Group `g`'s corner in the `[16, 2, 128, 7168]` array of partials. -/
def pgrpOff (g : Fin 8) : Fin 4 → Nat := ![0, g.val / 4, 32 * (g.val % 4), 0]
theorem pgrpOff_inb (g : Fin 8) : ∀ a, pgrpOff g a + S16x1x32x7168.size a ≤ S16x2x128x7168.size a := by
  have := g.isLt; intro a; fin_cases a
  · show 0 + 16 ≤ 16; omega
  · show g.val / 4 + 1 ≤ 2; omega
  · show 32 * (g.val % 4) + 32 ≤ 128; omega
  · show 0 + 7168 ≤ 7168; omega
def slotOff (s : Fin 4) : Fin 3 → Nat := ![s.val, 0, 0]
theorem slotOff_inb (s : Fin 4) : ∀ a, slotOff s a + S1x32x7168.size a ≤ S4x32x7168.size a := by
  have := s.isLt; intro a; fin_cases a
  · show s.val + 1 ≤ 4; omega
  · show 0 + 32 ≤ 32; omega
  · show 0 + 7168 ≤ 7168; omega
def pslotOff (s : Fin 4) : Fin 4 → Nat := ![s.val, 0, 0, 0]
theorem pslotOff_inb (s : Fin 4) : ∀ a, pslotOff s a + S1x16x32x7168.size a ≤ S4x16x32x7168.size a := by
  have := s.isLt; intro a; fin_cases a
  · show s.val + 1 ≤ 4; omega
  · show 0 + 16 ≤ 16; omega
  · show 0 + 32 ≤ 32; omega
  · show 0 + 7168 ≤ 7168; omega
def rowOff (g : Fin 8) : Fin 3 → Nat := ![g.val, 0, 0]
theorem rowOff_inb (g : Fin 8) : ∀ a, rowOff g a + S1x32x7168.size a ≤ S8x32x7168.size a := by
  have := g.isLt; intro a; fin_cases a
  · show g.val + 1 ≤ 8; omega
  · show 0 + 32 ≤ 32; omega
  · show 0 + 7168 ≤ 7168; omega
def semOff (s : Fin 4) : Fin 1 → Nat := ![s.val]
theorem semOff_inb (s : Fin 4) : ∀ a, semOff s a + S1.size a ≤ S4.size a := by
  have := s.isLt; intro a; fin_cases a; show s.val + 1 ≤ 4; omega

/-- Group `g` of `x`. -/
def xGrp (g : Fin 8) : Memref sig .tc .hbm S32x7168 .bf16 :=
  (aX.slice (Rect.unit (s := S2x128x7168) (grpOff g) S1x32x7168.size (grpOff_inb g)) (fun _ => rfl)).squeeze S32x7168 squeezes_S1x32x7168_S32x7168
/-- Group `g` of the partials. -/
def pGrp (g : Fin 8) : Memref sig .tc .hbm S16x32x7168 .fp8e4m3 :=
  (aParts.slice (Rect.unit (s := S16x2x128x7168) (pgrpOff g) S16x1x32x7168.size (pgrpOff_inb g)) (fun _ => rfl)).squeeze S16x32x7168 squeezes_S16x1x32x7168_S16x32x7168
/-- Group `g` of the residual output. -/
def resOut (g : Fin 8) : Memref sig .tc .hbm S32x7168 .bf16 :=
  (oRes.slice (Rect.unit (s := S2x128x7168) (grpOff g) S1x32x7168.size (grpOff_inb g)) (fun _ => rfl)).squeeze S32x7168 squeezes_S1x32x7168_S32x7168
/-- Group `g` of the codes output. -/
def codesOut (g : Fin 8) : Memref sig .tc .hbm S32x7168 .fp8e4m3 :=
  (oCodes.slice (Rect.unit (s := S2x128x7168) (grpOff g) S1x32x7168.size (grpOff_inb g)) (fun _ => rfl)).squeeze S32x7168 squeezes_S1x32x7168_S32x7168
/-- Slot `s` of the ring of `x`. -/
def xSlot (s : Fin 4) : Memref sig .tc .vmem S32x7168 .bf16 :=
  (bX.slice (Rect.unit (s := S4x32x7168) (slotOff s) S1x32x7168.size (slotOff_inb s)) (fun _ => rfl)).squeeze S32x7168 squeezes_S1x32x7168_S32x7168
/-- Slot `s` of the ring of partials. -/
def pSlot (s : Fin 4) : Memref sig .tc .vmem S16x32x7168 .fp8e4m3 :=
  (bParts.slice (Rect.unit (s := S4x16x32x7168) (pslotOff s) S1x16x32x7168.size (pslotOff_inb s)) (fun _ => rfl)).squeeze S16x32x7168 squeezes_S1x16x32x7168_S16x32x7168
/-- Group `g` of the residual kept in VMEM. -/
def resRow (g : Fin 8) : Memref sig .tc .vmem S32x7168 .bf16 :=
  (bRes.slice (Rect.unit (s := S8x32x7168) (rowOff g) S1x32x7168.size (rowOff_inb g)) (fun _ => rfl)).squeeze S32x7168 squeezes_S1x32x7168_S32x7168
/-- Group `g` of the codes kept in VMEM. -/
def codesRow (g : Fin 8) : Memref sig .tc .vmem S32x7168 .fp8e4m3 :=
  (bCodes.slice (Rect.unit (s := S8x32x7168) (rowOff g) S1x32x7168.size (rowOff_inb g)) (fun _ => rfl)).squeeze S32x7168 squeezes_S1x32x7168_S32x7168
/-- Slot `s`'s semaphore of the ring of partials. -/
def pSem (s : Fin 4) : DmaSems sig S_ := (cc0_scratch13.slice (Rect.unit (s := S4) (semOff s) S1.size (semOff_inb s))).squeeze S_ squeezes_S1_S_
/-- Slot `s`'s semaphore of the ring of `x`. -/
def xSem (s : Fin 4) : DmaSems sig S_ := (cc0_scratch14.slice (Rect.unit (s := S4) (semOff s) S1.size (semOff_inb s))).squeeze S_ squeezes_S1_S_

instance (g : Fin 8) : ClosedOff (grpOff g) := ⟨![g.val / 4, 32 * (g.val % 4), 0], rfl⟩
instance (g : Fin 8) : ClosedOff (pgrpOff g) := ⟨![0, g.val / 4, 32 * (g.val % 4), 0], rfl⟩
instance (s : Fin 4) : ClosedOff (slotOff s) := ⟨![s.val, 0, 0], rfl⟩
instance (s : Fin 4) : ClosedOff (pslotOff s) := ⟨![s.val, 0, 0, 0], rfl⟩
instance (g : Fin 8) : ClosedOff (rowOff g) := ⟨![g.val, 0, 0], rfl⟩

/-! ## The loop's offsets in closed form, trip by trip -/

section Chain
variable (k : Fin k0_t1_loop.trips)

theorem off1_eq : ∀ k, k0_off1 k = semOff (sl (gi k)) := by decide +kernel
theorem off2_eq : ∀ k, k0_off2 k = slotOff (sl (gi k)) := by decide +kernel
theorem off3_eq : ∀ k, k0_off3 k = grpOff (gi k) := by decide +kernel
theorem off4_eq : ∀ k, k0_off4 k = pslotOff (sl (gi k)) := by decide +kernel
theorem off5_eq : ∀ k, k0_off5 k = pgrpOff (gi k) := by decide +kernel
theorem off28_eq : ∀ k, k0_off28 k = rowOff (gi k) := by decide +kernel
theorem off29_eq : ∀ k, k0_off29 k = semOff (sl (gi k)) := by decide +kernel
theorem off30_eq : ∀ k, k0_off30 k = slotOff (sl (gi k)) := by decide +kernel
theorem off31_eq : ∀ k, (h : k.val < 4) → k0_off31 k = grpOff (gi4 k h) := by decide +kernel
theorem off32_eq : ∀ k, k0_off32 k = pslotOff (sl (gi k)) := by decide +kernel
theorem off33_eq : ∀ k, (h : k.val < 4) → k0_off33 k = pgrpOff (gi4 k h) := by decide +kernel
theorem cond1_pos : ∀ k : Fin k0_t1_loop.trips, k.val < 4 → k0_cond1 k = 1#1 := by decide +kernel
theorem cond1_neg : ∀ k : Fin k0_t1_loop.trips, ¬ k.val < 4 → ¬ k0_cond1 k = 1#1 := by decide +kernel

def lhsOff (g : Fin 8) : Fin 2 → Nat := ![32 * g.val, 0]
/-- Slab `i` (1024 columns) of a slot or of a group. -/
def pslabOff (s : Fin 4) (i : ℕ) : Fin 4 → Nat := ![s.val, 0, 0, i]
def slabOff (s : Fin 4) (i : ℕ) : Fin 3 → Nat := ![s.val, 0, i]
def rslabOff (g : Fin 8) (i : ℕ) : Fin 3 → Nat := ![g.val, 0, i]

theorem off6_eq : ∀ k, k0_off6 k = lhsOff (gi k) := by decide +kernel
theorem off7_eq : ∀ k, k0_off7 k = pslabOff (sl (gi k)) 0 := by decide +kernel
theorem off10_eq : ∀ k, k0_off10 k = pslabOff (sl (gi k)) 1024 := by decide +kernel
theorem off13_eq : ∀ k, k0_off13 k = pslabOff (sl (gi k)) 2048 := by decide +kernel
theorem off16_eq : ∀ k, k0_off16 k = pslabOff (sl (gi k)) 3072 := by decide +kernel
theorem off19_eq : ∀ k, k0_off19 k = pslabOff (sl (gi k)) 4096 := by decide +kernel
theorem off22_eq : ∀ k, k0_off22 k = pslabOff (sl (gi k)) 5120 := by decide +kernel
theorem off25_eq : ∀ k, k0_off25 k = pslabOff (sl (gi k)) 6144 := by decide +kernel
theorem off8_eq : ∀ k, k0_off8 k = slabOff (sl (gi k)) 0 := by decide +kernel
theorem off11_eq : ∀ k, k0_off11 k = slabOff (sl (gi k)) 1024 := by decide +kernel
theorem off14_eq : ∀ k, k0_off14 k = slabOff (sl (gi k)) 2048 := by decide +kernel
theorem off17_eq : ∀ k, k0_off17 k = slabOff (sl (gi k)) 3072 := by decide +kernel
theorem off20_eq : ∀ k, k0_off20 k = slabOff (sl (gi k)) 4096 := by decide +kernel
theorem off23_eq : ∀ k, k0_off23 k = slabOff (sl (gi k)) 5120 := by decide +kernel
theorem off26_eq : ∀ k, k0_off26 k = slabOff (sl (gi k)) 6144 := by decide +kernel
theorem off9_eq : ∀ k, k0_off9 k = rslabOff (gi k) 0 := by decide +kernel
theorem off12_eq : ∀ k, k0_off12 k = rslabOff (gi k) 1024 := by decide +kernel
theorem off15_eq : ∀ k, k0_off15 k = rslabOff (gi k) 2048 := by decide +kernel
theorem off18_eq : ∀ k, k0_off18 k = rslabOff (gi k) 3072 := by decide +kernel
theorem off21_eq : ∀ k, k0_off21 k = rslabOff (gi k) 4096 := by decide +kernel
theorem off24_eq : ∀ k, k0_off24 k = rslabOff (gi k) 5120 := by decide +kernel
theorem off27_eq : ∀ k, k0_off27 k = rslabOff (gi k) 6144 := by decide +kernel

instance : ClosedOff (k0_off6 k) := ⟨![32 * (gi k).val, 0], off6_eq k⟩
instance : ClosedOff (k0_off7 k) := ⟨![(sl (gi k)).val, 0, 0, 0], off7_eq k⟩
instance : ClosedOff (k0_off10 k) := ⟨![(sl (gi k)).val, 0, 0, 1024], off10_eq k⟩
instance : ClosedOff (k0_off13 k) := ⟨![(sl (gi k)).val, 0, 0, 2048], off13_eq k⟩
instance : ClosedOff (k0_off16 k) := ⟨![(sl (gi k)).val, 0, 0, 3072], off16_eq k⟩
instance : ClosedOff (k0_off19 k) := ⟨![(sl (gi k)).val, 0, 0, 4096], off19_eq k⟩
instance : ClosedOff (k0_off22 k) := ⟨![(sl (gi k)).val, 0, 0, 5120], off22_eq k⟩
instance : ClosedOff (k0_off25 k) := ⟨![(sl (gi k)).val, 0, 0, 6144], off25_eq k⟩
instance : ClosedOff (k0_off8 k) := ⟨![(sl (gi k)).val, 0, 0], off8_eq k⟩
instance : ClosedOff (k0_off11 k) := ⟨![(sl (gi k)).val, 0, 1024], off11_eq k⟩
instance : ClosedOff (k0_off14 k) := ⟨![(sl (gi k)).val, 0, 2048], off14_eq k⟩
instance : ClosedOff (k0_off17 k) := ⟨![(sl (gi k)).val, 0, 3072], off17_eq k⟩
instance : ClosedOff (k0_off20 k) := ⟨![(sl (gi k)).val, 0, 4096], off20_eq k⟩
instance : ClosedOff (k0_off23 k) := ⟨![(sl (gi k)).val, 0, 5120], off23_eq k⟩
instance : ClosedOff (k0_off26 k) := ⟨![(sl (gi k)).val, 0, 6144], off26_eq k⟩
instance : ClosedOff (k0_off9 k) := ⟨![(gi k).val, 0, 0], off9_eq k⟩
instance : ClosedOff (k0_off12 k) := ⟨![(gi k).val, 0, 1024], off12_eq k⟩
instance : ClosedOff (k0_off15 k) := ⟨![(gi k).val, 0, 2048], off15_eq k⟩
instance : ClosedOff (k0_off18 k) := ⟨![(gi k).val, 0, 3072], off18_eq k⟩
instance : ClosedOff (k0_off21 k) := ⟨![(gi k).val, 0, 4096], off21_eq k⟩
instance : ClosedOff (k0_off24 k) := ⟨![(gi k).val, 0, 5120], off24_eq k⟩
instance : ClosedOff (k0_off27 k) := ⟨![(gi k).val, 0, 6144], off27_eq k⟩

end Chain

/-! ## The program's slices are these names -/

section Canon

theorem pSem_congr {off : Fin 1 → Nat} {s : Fin 4} (e : off = semOff s) (hh) :
    (cc0_scratch13.slice (Rect.unit (s := S4) off S1.size hh)).squeeze S_ squeezes_S1_S_ = pSem s :=
  congrArg (fun A : DmaSems sig S1 => A.squeeze S_ squeezes_S1_S_) (SemArray.slice_unit_congr _ e _ _)
theorem xSem_congr {off : Fin 1 → Nat} {s : Fin 4} (e : off = semOff s) (hh) :
    (cc0_scratch14.slice (Rect.unit (s := S4) off S1.size hh)).squeeze S_ squeezes_S1_S_ = xSem s :=
  congrArg (fun A : DmaSems sig S1 => A.squeeze S_ squeezes_S1_S_) (SemArray.slice_unit_congr _ e _ _)
theorem xGrp_congr {off : Fin 3 → Nat} {g : Fin 8} (e : off = grpOff g) (hh hs) :
    (aX.slice (Rect.unit (s := S2x128x7168) off S1x32x7168.size hh) hs).squeeze S32x7168 squeezes_S1x32x7168_S32x7168 = xGrp g :=
  congrArg (fun M : Memref sig .tc .hbm S1x32x7168 .bf16 => M.squeeze S32x7168 squeezes_S1x32x7168_S32x7168) (Memref.slice_unit_congr _ e _ _ _ _)
theorem pGrp_congr {off : Fin 4 → Nat} {g : Fin 8} (e : off = pgrpOff g) (hh hs) :
    (aParts.slice (Rect.unit (s := S16x2x128x7168) off S16x1x32x7168.size hh) hs).squeeze S16x32x7168 squeezes_S16x1x32x7168_S16x32x7168 = pGrp g :=
  congrArg (fun M : Memref sig .tc .hbm S16x1x32x7168 .fp8e4m3 => M.squeeze S16x32x7168 squeezes_S16x1x32x7168_S16x32x7168) (Memref.slice_unit_congr _ e _ _ _ _)
theorem resOut_congr {off : Fin 3 → Nat} {g : Fin 8} (e : off = grpOff g) (hh hs) :
    (oRes.slice (Rect.unit (s := S2x128x7168) off S1x32x7168.size hh) hs).squeeze S32x7168 squeezes_S1x32x7168_S32x7168 = resOut g :=
  congrArg (fun M : Memref sig .tc .hbm S1x32x7168 .bf16 => M.squeeze S32x7168 squeezes_S1x32x7168_S32x7168) (Memref.slice_unit_congr _ e _ _ _ _)
theorem codesOut_congr {off : Fin 3 → Nat} {g : Fin 8} (e : off = grpOff g) (hh hs) :
    (oCodes.slice (Rect.unit (s := S2x128x7168) off S1x32x7168.size hh) hs).squeeze S32x7168 squeezes_S1x32x7168_S32x7168 = codesOut g :=
  congrArg (fun M : Memref sig .tc .hbm S1x32x7168 .fp8e4m3 => M.squeeze S32x7168 squeezes_S1x32x7168_S32x7168) (Memref.slice_unit_congr _ e _ _ _ _)
theorem xSlot_congr {off : Fin 3 → Nat} {s : Fin 4} (e : off = slotOff s) (hh hs) :
    (bX.slice (Rect.unit (s := S4x32x7168) off S1x32x7168.size hh) hs).squeeze S32x7168 squeezes_S1x32x7168_S32x7168 = xSlot s :=
  congrArg (fun M : Memref sig .tc .vmem S1x32x7168 .bf16 => M.squeeze S32x7168 squeezes_S1x32x7168_S32x7168) (Memref.slice_unit_congr _ e _ _ _ _)
theorem pSlot_congr {off : Fin 4 → Nat} {s : Fin 4} (e : off = pslotOff s) (hh hs) :
    (bParts.slice (Rect.unit (s := S4x16x32x7168) off S1x16x32x7168.size hh) hs).squeeze S16x32x7168 squeezes_S1x16x32x7168_S16x32x7168 = pSlot s :=
  congrArg (fun M : Memref sig .tc .vmem S1x16x32x7168 .fp8e4m3 => M.squeeze S16x32x7168 squeezes_S1x16x32x7168_S16x32x7168) (Memref.slice_unit_congr _ e _ _ _ _)
theorem resRow_congr {off : Fin 3 → Nat} {g : Fin 8} (e : off = rowOff g) (hh hs) :
    (bRes.slice (Rect.unit (s := S8x32x7168) off S1x32x7168.size hh) hs).squeeze S32x7168 squeezes_S1x32x7168_S32x7168 = resRow g :=
  congrArg (fun M : Memref sig .tc .vmem S1x32x7168 .bf16 => M.squeeze S32x7168 squeezes_S1x32x7168_S32x7168) (Memref.slice_unit_congr _ e _ _ _ _)
theorem codesRow_congr {off : Fin 3 → Nat} {g : Fin 8} (e : off = rowOff g) (hh hs) :
    (bCodes.slice (Rect.unit (s := S8x32x7168) off S1x32x7168.size hh) hs).squeeze S32x7168 squeezes_S1x32x7168_S32x7168 = codesRow g :=
  congrArg (fun M : Memref sig .tc .vmem S1x32x7168 .fp8e4m3 => M.squeeze S32x7168 squeezes_S1x32x7168_S32x7168) (Memref.slice_unit_congr _ e _ _ _ _)

/-! ### At the literal slots and groups of the prologue -/

@[sl_canon] theorem pSem0 (hh) : (cc0_scratch13.slice (Rect.unit (s := S4) ![0] S1.size hh)).squeeze S_ squeezes_S1_S_ = pSem 0 := pSem_congr (by decide) _
@[sl_canon] theorem pSem1 (hh) : (cc0_scratch13.slice (Rect.unit (s := S4) ![1] S1.size hh)).squeeze S_ squeezes_S1_S_ = pSem 1 := pSem_congr (by decide) _
@[sl_canon] theorem pSem2 (hh) : (cc0_scratch13.slice (Rect.unit (s := S4) ![2] S1.size hh)).squeeze S_ squeezes_S1_S_ = pSem 2 := pSem_congr (by decide) _
@[sl_canon] theorem pSem3 (hh) : (cc0_scratch13.slice (Rect.unit (s := S4) ![3] S1.size hh)).squeeze S_ squeezes_S1_S_ = pSem 3 := pSem_congr (by decide) _
@[sl_canon] theorem xSem0 (hh) : (cc0_scratch14.slice (Rect.unit (s := S4) ![0] S1.size hh)).squeeze S_ squeezes_S1_S_ = xSem 0 := xSem_congr (by decide) _
@[sl_canon] theorem xSem1 (hh) : (cc0_scratch14.slice (Rect.unit (s := S4) ![1] S1.size hh)).squeeze S_ squeezes_S1_S_ = xSem 1 := xSem_congr (by decide) _
@[sl_canon] theorem xSem2 (hh) : (cc0_scratch14.slice (Rect.unit (s := S4) ![2] S1.size hh)).squeeze S_ squeezes_S1_S_ = xSem 2 := xSem_congr (by decide) _
@[sl_canon] theorem xSem3 (hh) : (cc0_scratch14.slice (Rect.unit (s := S4) ![3] S1.size hh)).squeeze S_ squeezes_S1_S_ = xSem 3 := xSem_congr (by decide) _
@[sl_canon] theorem xSlot0 (hh hs) : (bX.slice (Rect.unit (s := S4x32x7168) ![0, 0, 0] S1x32x7168.size hh) hs).squeeze S32x7168 squeezes_S1x32x7168_S32x7168 = xSlot 0 := xSlot_congr (by decide) _ _
@[sl_canon] theorem xSlot1 (hh hs) : (bX.slice (Rect.unit (s := S4x32x7168) ![1, 0, 0] S1x32x7168.size hh) hs).squeeze S32x7168 squeezes_S1x32x7168_S32x7168 = xSlot 1 := xSlot_congr (by decide) _ _
@[sl_canon] theorem xSlot2 (hh hs) : (bX.slice (Rect.unit (s := S4x32x7168) ![2, 0, 0] S1x32x7168.size hh) hs).squeeze S32x7168 squeezes_S1x32x7168_S32x7168 = xSlot 2 := xSlot_congr (by decide) _ _
@[sl_canon] theorem xSlot3 (hh hs) : (bX.slice (Rect.unit (s := S4x32x7168) ![3, 0, 0] S1x32x7168.size hh) hs).squeeze S32x7168 squeezes_S1x32x7168_S32x7168 = xSlot 3 := xSlot_congr (by decide) _ _
@[sl_canon] theorem pSlot0 (hh hs) : (bParts.slice (Rect.unit (s := S4x16x32x7168) ![0, 0, 0, 0] S1x16x32x7168.size hh) hs).squeeze S16x32x7168 squeezes_S1x16x32x7168_S16x32x7168 = pSlot 0 := pSlot_congr (by decide) _ _
@[sl_canon] theorem pSlot1 (hh hs) : (bParts.slice (Rect.unit (s := S4x16x32x7168) ![1, 0, 0, 0] S1x16x32x7168.size hh) hs).squeeze S16x32x7168 squeezes_S1x16x32x7168_S16x32x7168 = pSlot 1 := pSlot_congr (by decide) _ _
@[sl_canon] theorem pSlot2 (hh hs) : (bParts.slice (Rect.unit (s := S4x16x32x7168) ![2, 0, 0, 0] S1x16x32x7168.size hh) hs).squeeze S16x32x7168 squeezes_S1x16x32x7168_S16x32x7168 = pSlot 2 := pSlot_congr (by decide) _ _
@[sl_canon] theorem pSlot3 (hh hs) : (bParts.slice (Rect.unit (s := S4x16x32x7168) ![3, 0, 0, 0] S1x16x32x7168.size hh) hs).squeeze S16x32x7168 squeezes_S1x16x32x7168_S16x32x7168 = pSlot 3 := pSlot_congr (by decide) _ _
@[sl_canon] theorem xGrp0 (hh hs) : (aX.slice (Rect.unit (s := S2x128x7168) ![0, 0, 0] S1x32x7168.size hh) hs).squeeze S32x7168 squeezes_S1x32x7168_S32x7168 = xGrp 0 := xGrp_congr (by decide) _ _
@[sl_canon] theorem xGrp1 (hh hs) : (aX.slice (Rect.unit (s := S2x128x7168) ![0, 32, 0] S1x32x7168.size hh) hs).squeeze S32x7168 squeezes_S1x32x7168_S32x7168 = xGrp 1 := xGrp_congr (by decide) _ _
@[sl_canon] theorem xGrp2 (hh hs) : (aX.slice (Rect.unit (s := S2x128x7168) ![0, 64, 0] S1x32x7168.size hh) hs).squeeze S32x7168 squeezes_S1x32x7168_S32x7168 = xGrp 2 := xGrp_congr (by decide) _ _
@[sl_canon] theorem xGrp3 (hh hs) : (aX.slice (Rect.unit (s := S2x128x7168) ![0, 96, 0] S1x32x7168.size hh) hs).squeeze S32x7168 squeezes_S1x32x7168_S32x7168 = xGrp 3 := xGrp_congr (by decide) _ _
@[sl_canon] theorem pGrp0 (hh hs) : (aParts.slice (Rect.unit (s := S16x2x128x7168) ![0, 0, 0, 0] S16x1x32x7168.size hh) hs).squeeze S16x32x7168 squeezes_S16x1x32x7168_S16x32x7168 = pGrp 0 := pGrp_congr (by decide) _ _
@[sl_canon] theorem pGrp1 (hh hs) : (aParts.slice (Rect.unit (s := S16x2x128x7168) ![0, 0, 32, 0] S16x1x32x7168.size hh) hs).squeeze S16x32x7168 squeezes_S16x1x32x7168_S16x32x7168 = pGrp 1 := pGrp_congr (by decide) _ _
@[sl_canon] theorem pGrp2 (hh hs) : (aParts.slice (Rect.unit (s := S16x2x128x7168) ![0, 0, 64, 0] S16x1x32x7168.size hh) hs).squeeze S16x32x7168 squeezes_S16x1x32x7168_S16x32x7168 = pGrp 2 := pGrp_congr (by decide) _ _
@[sl_canon] theorem pGrp3 (hh hs) : (aParts.slice (Rect.unit (s := S16x2x128x7168) ![0, 0, 96, 0] S16x1x32x7168.size hh) hs).squeeze S16x32x7168 squeezes_S16x1x32x7168_S16x32x7168 = pGrp 3 := pGrp_congr (by decide) _ _

/-! ### At a trip of the loop -/

variable (k : Fin k0_t1_loop.trips)

@[sl_canon] theorem pSemW (hh) : (cc0_scratch13.slice (Rect.unit (s := S4) (k0_off1 k) S1.size hh)).squeeze S_ squeezes_S1_S_ = pSem (sl (gi k)) := pSem_congr (off1_eq k) _
@[sl_canon] theorem xSemW (hh) : (cc0_scratch14.slice (Rect.unit (s := S4) (k0_off1 k) S1.size hh)).squeeze S_ squeezes_S1_S_ = xSem (sl (gi k)) := xSem_congr (off1_eq k) _
@[sl_canon] theorem pSemI (hh) : (cc0_scratch13.slice (Rect.unit (s := S4) (k0_off29 k) S1.size hh)).squeeze S_ squeezes_S1_S_ = pSem (sl (gi k)) := pSem_congr (off29_eq k) _
@[sl_canon] theorem xSemI (hh) : (cc0_scratch14.slice (Rect.unit (s := S4) (k0_off29 k) S1.size hh)).squeeze S_ squeezes_S1_S_ = xSem (sl (gi k)) := xSem_congr (off29_eq k) _
@[sl_canon] theorem xSlotW (hh hs) : (bX.slice (Rect.unit (s := S4x32x7168) (k0_off2 k) S1x32x7168.size hh) hs).squeeze S32x7168 squeezes_S1x32x7168_S32x7168 = xSlot (sl (gi k)) := xSlot_congr (off2_eq k) _ _
@[sl_canon] theorem xSlotI (hh hs) : (bX.slice (Rect.unit (s := S4x32x7168) (k0_off30 k) S1x32x7168.size hh) hs).squeeze S32x7168 squeezes_S1x32x7168_S32x7168 = xSlot (sl (gi k)) := xSlot_congr (off30_eq k) _ _
@[sl_canon] theorem pSlotW (hh hs) : (bParts.slice (Rect.unit (s := S4x16x32x7168) (k0_off4 k) S1x16x32x7168.size hh) hs).squeeze S16x32x7168 squeezes_S1x16x32x7168_S16x32x7168 = pSlot (sl (gi k)) := pSlot_congr (off4_eq k) _ _
@[sl_canon] theorem pSlotI (hh hs) : (bParts.slice (Rect.unit (s := S4x16x32x7168) (k0_off32 k) S1x16x32x7168.size hh) hs).squeeze S16x32x7168 squeezes_S1x16x32x7168_S16x32x7168 = pSlot (sl (gi k)) := pSlot_congr (off32_eq k) _ _
@[sl_canon] theorem xGrpW (hh hs) : (aX.slice (Rect.unit (s := S2x128x7168) (k0_off3 k) S1x32x7168.size hh) hs).squeeze S32x7168 squeezes_S1x32x7168_S32x7168 = xGrp (gi k) := xGrp_congr (off3_eq k) _ _
@[sl_canon] theorem pGrpW (hh hs) : (aParts.slice (Rect.unit (s := S16x2x128x7168) (k0_off5 k) S16x1x32x7168.size hh) hs).squeeze S16x32x7168 squeezes_S16x1x32x7168_S16x32x7168 = pGrp (gi k) := pGrp_congr (off5_eq k) _ _
@[sl_canon] theorem xGrpI (h : k.val < 4) (hh hs) : (aX.slice (Rect.unit (s := S2x128x7168) (k0_off31 k) S1x32x7168.size hh) hs).squeeze S32x7168 squeezes_S1x32x7168_S32x7168 = xGrp (gi4 k h) := xGrp_congr (off31_eq k h) _ _
@[sl_canon] theorem pGrpI (h : k.val < 4) (hh hs) : (aParts.slice (Rect.unit (s := S16x2x128x7168) (k0_off33 k) S16x1x32x7168.size hh) hs).squeeze S16x32x7168 squeezes_S16x1x32x7168_S16x32x7168 = pGrp (gi4 k h) := pGrp_congr (off33_eq k h) _ _
@[sl_canon] theorem resOutK (hh hs) : (oRes.slice (Rect.unit (s := S2x128x7168) (k0_off3 k) S1x32x7168.size hh) hs).squeeze S32x7168 squeezes_S1x32x7168_S32x7168 = resOut (gi k) := resOut_congr (off3_eq k) _ _
@[sl_canon] theorem codesOutK (hh hs) : (oCodes.slice (Rect.unit (s := S2x128x7168) (k0_off3 k) S1x32x7168.size hh) hs).squeeze S32x7168 squeezes_S1x32x7168_S32x7168 = codesOut (gi k) := codesOut_congr (off3_eq k) _ _
@[sl_canon] theorem resRowK (hh hs) : (bRes.slice (Rect.unit (s := S8x32x7168) (k0_off28 k) S1x32x7168.size hh) hs).squeeze S32x7168 squeezes_S1x32x7168_S32x7168 = resRow (gi k) := resRow_congr (off28_eq k) _ _
@[sl_canon] theorem codesRowK (hh hs) : (bCodes.slice (Rect.unit (s := S8x32x7168) (k0_off28 k) S1x32x7168.size hh) hs).squeeze S32x7168 squeezes_S1x32x7168_S32x7168 = codesRow (gi k) := codesRow_congr (off28_eq k) _ _

end Canon

end Cert.Proof.Run

end
-- ==== Proof.Spec.lean ====
/-
  What one trip of the loop computes, as words: the input words of a group cut from the whole arrays, the residual
  slab, the sum of squares carried lane by lane, the codes slab and the running absolute maximum; and the whole-array
  values of the two large results. The program unrolls the seven slabs and cuts the chains at different places; the
  equations here say that every cut is the same chain.
-/
module

public import proofs.«01_k».proof.Proof.Names
public import Idealize.ShloMosaic.Lib.ValueIdxCore

@[expose] public section

set_option maxRecDepth 16384

noncomputable section

namespace Cert.Proof.Run

open Cert.KernelIdeal Cert.KernelIdeal.Gen
open Idealize.ShloMosaic
open Idealize.SL.Sem

variable {F : FTy → Type} [FloatOps F]

/-! ## One group, from its words -/

/-- The sum of squares of the seven slabs, lane by lane (128 lanes). -/
def ssqW (w : Vec F S32x512 .bf16) (P : Fin 7 → Vec F S1x16x32x1024 .fp8e4m3) (B : Fin 7 → Vec F S1x1024 .f32)
    (X : Fin 7 → Vec F S1x32x1024 .bf16) : FVec F S32x128 .f32 :=
  k0_pay4 w (k0_pay4 w (k0_pay4 w (k0_pay4 w (k0_pay4 w (k0_pay4 w (k0_pay4 w (k0_pay1 (F := F))
    (P 0) (B 0) (X 0)) (P 1) (B 1) (X 1)) (P 2) (B 2) (X 2)) (P 3) (B 3) (X 3)) (P 4) (B 4) (X 4)) (P 5) (B 5) (X 5)) (P 6) (B 6) (X 6)

/-- From the sum of squares by lanes to the reciprocal root mean square of each row. -/
def finishW (T : FVec F S32x128 .f32) : FVec F S32x1 .f32 :=
  rsqrt (addf (divf (shapeCast S32x1 (multiReduction .add [1] S32 T 0x00000000#32 reduces_S32x128_S32 (.inl rfl) rfl) shapeCasts_S32_S32x1)
    (broadcast S32x1 (Scalar.ofBits .f32 0x45E00000#32 : F .f32))) (broadcast S32x1 (Scalar.ofBits .f32 0x358637BD#32 : F .f32)))

/-- One slab of 1024 columns folded into the running maximum, 128 lanes at a time. -/
def maxW (a : FVec F S32x128 .f32) (y : FVec F S32x1024 .f32) : FVec F S32x128 .f32 :=
  maximumf (maximumf (maximumf (maximumf (maximumf (maximumf (maximumf (maximumf a
    (extractStridedSlice S32x128 ![0, 0] y slices_S32x1024_o0_0_S32x128))
    (extractStridedSlice S32x128 ![0, 128] y slices_S32x1024_o0_128_S32x128))
    (extractStridedSlice S32x128 ![0, 256] y slices_S32x1024_o0_256_S32x128))
    (extractStridedSlice S32x128 ![0, 384] y slices_S32x1024_o0_384_S32x128))
    (extractStridedSlice S32x128 ![0, 512] y slices_S32x1024_o0_512_S32x128))
    (extractStridedSlice S32x128 ![0, 640] y slices_S32x1024_o0_640_S32x128))
    (extractStridedSlice S32x128 ![0, 768] y slices_S32x1024_o0_768_S32x128))
    (extractStridedSlice S32x128 ![0, 896] y slices_S32x1024_o0_896_S32x128)

/-- The running maximum after a group: the seven slabs of `|y|` folded in. -/
def amaxW (iv : FVec F S32x1 .f32) (R : Fin 7 → Vec F S1x32x1024 .bf16) (G : Fin 7 → Vec F S1x1024 .f32)
    (a : FVec F S32x128 .f32) : FVec F S32x128 .f32 :=
  maxW (maxW (maxW (maxW (maxW (maxW (maxW a (absf (k0_pay40 iv (R 0) (G 0)))) (absf (k0_pay40 iv (R 1) (G 1))))
    (absf (k0_pay40 iv (R 2) (G 2)))) (absf (k0_pay40 iv (R 3) (G 3)))) (absf (k0_pay40 iv (R 4) (G 4))))
    (absf (k0_pay40 iv (R 5) (G 5)))) (absf (k0_pay40 iv (R 6) (G 6)))

/-! ## The program's cuts of these chains -/

theorem pay6_eq : k0_pay6 (F := F) = k0_pay3 := rfl
theorem pay11_eq : k0_pay11 (F := F) = k0_pay3 := rfl
theorem pay16_eq : k0_pay16 (F := F) = k0_pay3 := rfl
theorem pay21_eq : k0_pay21 (F := F) = k0_pay3 := rfl
theorem pay26_eq : k0_pay26 (F := F) = k0_pay3 := rfl
theorem pay31_eq : k0_pay31 (F := F) = k0_pay3 := rfl

theorem pay44_eq : k0_pay44 (F := F) = k0_pay41 := rfl
theorem pay51_eq : k0_pay51 (F := F) = k0_pay41 := rfl
theorem pay55_eq : k0_pay55 (F := F) = k0_pay41 := rfl
theorem pay58_eq : k0_pay58 (F := F) = k0_pay41 := rfl
theorem pay49_eq (v : FVec F S1x1 .f32) (iv : FVec F S32x1 .f32) (r : Vec F S1x32x1024 .bf16) (g : Vec F S1x1024 .f32) :
    k0_pay49 (k0_pay47 v iv r g) (Scalar.ofBits .f32 0x43E00000#32) (k0_pay48 (F := F)) = k0_pay41 v iv r g := rfl
theorem pay37_eq (v : FVec F S1x1 .f32) (a : FVec F S32x1024 .f32) (b d : FVec F S32x128 .f32) (r : Vec F S1x32x1024 .bf16) (g : Vec F S1x1024 .f32) :
    k0_pay37 v a b d r g = k0_pay41 v (k0_pay35 a b d) r g := rfl

/-- The reciprocal root mean square, as the program cuts the chain. -/
theorem inv_eq (w : Vec F S32x512 .bf16) (P0 P1 P2 P3 P4 P5 P6 : Vec F S1x16x32x1024 .fp8e4m3) (B0 B1 B2 B3 B4 B5 B6 : Vec F S1x1024 .f32)
    (X0 X1 X2 X3 X4 X5 X6 : Vec F S1x32x1024 .bf16) :
    k0_pay35 (k0_pay32 w P6 B6 X6)
      (k0_pay33 w (k0_pay27 w P5 B5 X5)
        (k0_pay28 w (k0_pay22 w P4 B4 X4)
          (k0_pay23 w (k0_pay17 w P3 B3 X3)
            (k0_pay18 w (k0_pay12 w P2 B2 X2)
              (k0_pay13 w (k0_pay8 w (k0_pay4 w (k0_pay1 (F := F)) P0 B0 X0) P1 B1 X1) (k0_pay9 w P1 B1 X1) P2 B2 X2)
              (k0_pay14 w P2 B2 X2) P3 B3 X3)
            (k0_pay19 w P3 B3 X3) P4 B4 X4)
          (k0_pay24 w P4 B4 X4) P5 B5 X5)
        (k0_pay29 w P5 B5 X5) P6 B6 X6)
      (k0_pay34 w P6 B6 X6)
    = finishW (ssqW w ![P0, P1, P2, P3, P4, P5, P6] ![B0, B1, B2, B3, B4, B5, B6] ![X0, X1, X2, X3, X4, X5, X6]) := rfl

/-- The running maximum, as the program cuts the chain. -/
theorem amax_eq (v681 : FVec F S32x1024 .f32) (v701 v702 : FVec F S32x128 .f32) (a : Vec F S32x128 .f32)
    (R0 R1 R2 R3 R4 R5 R6 : Vec F S1x32x1024 .bf16) (G0 G1 G2 G3 G4 G5 G6 : Vec F S1x1024 .f32) :
    (let iv := k0_pay35 v681 v701 v702
     k0_pay59 iv (k0_pay56 iv (k0_pay52 iv R4 G4)
        (k0_pay53 iv (k0_pay45 iv (k0_pay42 iv (k0_pay38 v681 v701 v702 R0 G0) (k0_pay39 v681 v701 v702 a R0 G0) R1 G1) R2 G2)
          (k0_pay46 iv R3 G3) R4 G4) R5 G5) R6 G6)
    = amaxW (k0_pay35 v681 v701 v702) ![R0, R1, R2, R3, R4, R5, R6] ![G0, G1, G2, G3, G4, G5, G6] a := by
  have h : ∀ x : FVec F S32x128 .f32, shapeCast S32x128 x shapeCasts_S32x128_S32x128 = x := fun x =>
    funext fun j => congrArg x (Shape.reshapeEquiv_self _ j)
  exact (h (amaxW (k0_pay35 v681 v701 v702) ![R0, R1, R2, R3, R4, R5, R6] ![G0, G1, G2, G3, G4, G5, G6] a) :)

/-! ## The words of a group, cut from the whole arrays -/

open Idealize.ShloMosaic.ValueIdx

/-- What the loop reads: the partials, `x`, the weights, the bias, the gain, and the inverse scale. -/
structure Inp (F : FTy → Type) where
  XP : Vec F S16x2x128x7168 .fp8e4m3
  XX : Vec F S2x128x7168 .bf16
  L : Vec F S256x512 .bf16
  B : Vec F S1x7168 .f32
  G : Vec F S1x7168 .f32
  sc : FVec F S1x1 .f32

section Words
variable (I : Inp F) (g : Fin 8) (i : Fin 7)

/-- Batch, and row inside the batch, of row `t` of group `g`. -/
abbrev bOf (g : Fin 8) : Fin 2 := ⟨g.val / 4, by omega⟩
abbrev tOf (g : Fin 8) (t : Fin 32) : Fin 128 := ⟨32 * (g.val % 4) + t.val, by omega⟩
/-- Column `d` of slab `i`. -/
abbrev cOf (i : Fin 7) (d : Fin 1024) : Fin 7168 := ⟨1024 * i.val + d.val, by omega⟩

def pS : Vec F S1x16x32x1024 .fp8e4m3 := fun j => I.XP (ix4 (j 1) (bOf g) (tOf g (j 2)) (cOf i (j 3)))
def xS : Vec F S1x32x1024 .bf16 := fun j => I.XX (ix3 (bOf g) (tOf g (j 1)) (cOf i (j 2)))
def rowS (B : Vec F S1x7168 .f32) (i : Fin 7) : Vec F S1x1024 .f32 := fun j => B (ix2 0 (cOf i (j 1)))
def lhsS : Vec F S32x512 .bf16 := fun j => I.L (ix2 ⟨32 * g.val + (j 0).val, by have := idx2_lt0 j; omega⟩ (j 1))

/-- The residual slab, as stored. -/
def resS : FVec F S1x32x1024 .bf16 := k0_pay3 (lhsS I g) (pS I g i) (rowS I.B i) (xS I g i)
/-- The reciprocal root mean square of the group's rows. -/
def invS : FVec F S32x1 .f32 := finishW (ssqW (lhsS I g) (pS I g) (rowS I.B) (xS I g))
/-- The codes slab, as stored. -/
def codeS : FVec F S1x32x1024 .fp8e4m3 := k0_pay41 I.sc (invS I g) (resS I g i) (rowS I.G i)

/-- The running maximum after `n` groups. -/
def amaxS : ℕ → FVec F S32x128 .f32
  | 0 => k0_pay71 (F := F)
  | n + 1 => if h : n < 8 then amaxW (invS I ⟨n, h⟩) (resS I ⟨n, h⟩) (rowS I.G) (amaxS n) else amaxS n

theorem amaxS_succ : amaxS I (g.val + 1) = amaxW (invS I g) (resS I g) (rowS I.G) (amaxS I g.val) := by
  rw [amaxS, dif_pos g.isLt]

/-- The group and the slab of an entry of a large result. -/
abbrev gOf (b : Fin 2) (t : Fin 128) : Fin 8 := ⟨4 * b.val + t.val / 32, by omega⟩
abbrev rOf (t : Fin 128) : Fin 32 := ⟨t.val % 32, by omega⟩
abbrev iOf (d : Fin 7168) : Fin 7 := ⟨d.val / 1024, by omega⟩
abbrev dOf (d : Fin 7168) : Fin 1024 := ⟨d.val % 1024, by omega⟩

/-- The residual as a whole array, and the codes. -/
def Gres : Vec F S2x128x7168 .bf16 := fun y => resS I (gOf (y 0) (y 1)) (iOf (y 2)) (ix3 0 (rOf (y 1)) (dOf (y 2)))
def Gcodes : Vec F S2x128x7168 .fp8e4m3 := fun y => codeS I (gOf (y 0) (y 1)) (iOf (y 2)) (ix3 0 (rOf (y 1)) (dOf (y 2)))
/-- A group's rows of the two, in the eight-group buffers. -/
def rowRes : Vec F S8x32x7168 .bf16 := fun y => resS I g (iOf (y 2)) (ix3 0 (y 1) (dOf (y 2)))
def rowCodes : Vec F S8x32x7168 .fp8e4m3 := fun y => codeS I g (iOf (y 2)) (ix3 0 (y 1) (dOf (y 2)))

end Words

end Cert.Proof.Run

end
-- ==== Proof.Reads.lean ====
/-
  Where the views of the run sit in their buffers, coordinate by coordinate, and what the loads of a trip read: a load
  inside a ring slot whose content is a copied group reads that group's words; a group's rows written slab by slab in
  VMEM are the group's rows of the whole result.
-/
module

public import proofs.«01_k».proof.Proof.Spec

@[expose] public section

set_option maxRecDepth 16384

noncomputable section

namespace Cert.Proof.Run

open Cert.KernelIdeal Cert.KernelIdeal.Gen
open Idealize.ShloMosaic
open Idealize.ShloMosaic.TcCoe
open Idealize.SL.Sem
open Idealize.ShloMosaic.ValueIdx

variable {F : FTy → Type} [FloatOps F]

/-! ## Squeezes -/

/-- Dropping a leading unit axis: row-major positions agree. -/
theorem squeeze3 (h : S32x7168.numel = S1x32x7168.numel) (x : S32x7168.Idx) :
    Shape.reshapeEquiv h x = (ix3 0 (x 0) (x 1) : S1x32x7168.Idx) := by
  apply Shape.reshapeEquiv_eq_of_rowMajor
  rw [Shape.rowMajor_val_three, Shape.rowMajor_val_two]
  show (0 * 32 + (x 0).val) * 7168 + (x 1).val = (x 0).val * 7168 + (x 1).val
  omega
theorem squeeze4 (h : S16x32x7168.numel = S1x16x32x7168.numel) (x : S16x32x7168.Idx) :
    Shape.reshapeEquiv h x = (ix4 0 (x 0) (x 1) (x 2) : S1x16x32x7168.Idx) := by
  apply Shape.reshapeEquiv_eq_of_rowMajor
  rw [Shape.rowMajor_val_four, Shape.rowMajor_val_three]
  show ((0 * 16 + (x 0).val) * 32 + (x 1).val) * 7168 + (x 2).val = ((x 0).val * 32 + (x 1).val) * 7168 + (x 2).val
  omega
theorem squeeze4' (h : S16x32x7168.numel = S16x1x32x7168.numel) (x : S16x32x7168.Idx) :
    Shape.reshapeEquiv h x = (ix4 (x 0) 0 (x 1) (x 2) : S16x1x32x7168.Idx) := by
  apply Shape.reshapeEquiv_eq_of_rowMajor
  rw [Shape.rowMajor_val_four, Shape.rowMajor_val_three]
  show (((x 0).val * 1 + 0) * 32 + (x 1).val) * 7168 + (x 2).val = ((x 0).val * 32 + (x 1).val) * 7168 + (x 2).val
  omega

/-! ## Where the views sit -/

theorem emb_pSlot (s : Fin 4) (x : S16x32x7168.Idx) : (pSlot s).view.emb x = (ix4 s (x 0) (x 1) (x 2) : S4x16x32x7168.Idx) := by
  show (Rect.unit (s := S4x16x32x7168) (pslotOff s) S1x16x32x7168.size (pslotOff_inb s)).emb (Shape.reshapeEquiv _ x) = _
  rw [squeeze4]
  apply Rect.emb_eq_of_coords
  intro a
  fin_cases a
  · show s.val = s.val + 1 * 0; omega
  · show (x 0).val = 0 + 1 * (x 0).val; omega
  · show (x 1).val = 0 + 1 * (x 1).val; omega
  · show (x 2).val = 0 + 1 * (x 2).val; omega
theorem emb_pGrp (g : Fin 8) (x : S16x32x7168.Idx) :
    (pGrp g).view.emb x = (ix4 (x 0) (bOf g) (tOf g (x 1)) (x 2) : S16x2x128x7168.Idx) := by
  show (Rect.unit (s := S16x2x128x7168) (pgrpOff g) S16x1x32x7168.size (pgrpOff_inb g)).emb (Shape.reshapeEquiv _ x) = _
  rw [squeeze4']
  apply Rect.emb_eq_of_coords
  intro a
  fin_cases a
  · show (x 0).val = 0 + 1 * (x 0).val; omega
  · show g.val / 4 = g.val / 4 + 1 * 0; omega
  · show 32 * (g.val % 4) + (x 1).val = 32 * (g.val % 4) + 1 * (x 1).val; omega
  · show (x 2).val = 0 + 1 * (x 2).val; omega
theorem emb_xSlot (s : Fin 4) (x : S32x7168.Idx) : (xSlot s).view.emb x = (ix3 s (x 0) (x 1) : S4x32x7168.Idx) := by
  show (Rect.unit (s := S4x32x7168) (slotOff s) S1x32x7168.size (slotOff_inb s)).emb (Shape.reshapeEquiv _ x) = _
  rw [squeeze3]
  apply Rect.emb_eq_of_coords
  intro a
  fin_cases a
  · show s.val = s.val + 1 * 0; omega
  · show (x 0).val = 0 + 1 * (x 0).val; omega
  · show (x 1).val = 0 + 1 * (x 1).val; omega
/-- A group's corner in a `[2, 128, 7168]` array, whichever array. -/
theorem emb_grp (g : Fin 8) (h : S32x7168.numel = S1x32x7168.numel) (x : S32x7168.Idx) :
    (Rect.unit (s := S2x128x7168) (grpOff g) S1x32x7168.size (grpOff_inb g)).emb (Shape.reshapeEquiv h x)
      = (ix3 (bOf g) (tOf g (x 0)) (x 1) : S2x128x7168.Idx) := by
  rw [squeeze3]
  apply Rect.emb_eq_of_coords
  intro a
  fin_cases a
  · show g.val / 4 = g.val / 4 + 1 * 0; omega
  · show 32 * (g.val % 4) + (x 0).val = 32 * (g.val % 4) + 1 * (x 0).val; omega
  · show (x 1).val = 0 + 1 * (x 1).val; omega
theorem emb_xGrp (g : Fin 8) (x : S32x7168.Idx) : (xGrp g).view.emb x = (ix3 (bOf g) (tOf g (x 0)) (x 1) : S2x128x7168.Idx) :=
  emb_grp g _ x
theorem emb_resOut (g : Fin 8) (x : S32x7168.Idx) : (resOut g).view.emb x = (ix3 (bOf g) (tOf g (x 0)) (x 1) : S2x128x7168.Idx) :=
  emb_grp g _ x
theorem emb_codesOut (g : Fin 8) (x : S32x7168.Idx) : (codesOut g).view.emb x = (ix3 (bOf g) (tOf g (x 0)) (x 1) : S2x128x7168.Idx) :=
  emb_grp g _ x
/-- A group's rows in an `[8, 32, 7168]` array, whichever array. -/
theorem emb_row (g : Fin 8) (h : S32x7168.numel = S1x32x7168.numel) (x : S32x7168.Idx) :
    (Rect.unit (s := S8x32x7168) (rowOff g) S1x32x7168.size (rowOff_inb g)).emb (Shape.reshapeEquiv h x)
      = (ix3 g (x 0) (x 1) : S8x32x7168.Idx) := by
  rw [squeeze3]
  apply Rect.emb_eq_of_coords
  intro a
  fin_cases a
  · show g.val = g.val + 1 * 0; omega
  · show (x 0).val = 0 + 1 * (x 0).val; omega
  · show (x 1).val = 0 + 1 * (x 1).val; omega
theorem emb_resRow (g : Fin 8) (x : S32x7168.Idx) : (resRow g).view.emb x = (ix3 g (x 0) (x 1) : S8x32x7168.Idx) :=
  emb_row g _ x
theorem emb_codesRow (g : Fin 8) (x : S32x7168.Idx) : (codesRow g).view.emb x = (ix3 g (x 0) (x 1) : S8x32x7168.Idx) :=
  emb_row g _ x

/-! ## Loads -/

section Loads
variable (I : Inp F) (g : Fin 8)

/-- A load of slab `i` inside the slot that group `g`'s partials were copied into. -/
theorem readP (i : Fin 7) (fp : (pSlot (sl g)).view.ty.Contents (Elt F))
    (h : (pSlot (sl g)).view.read (Elt F) fp = (pGrp g).view.read (Elt F) I.XP)
    (off : Fin 4 → ℕ) (ho : off = pslabOff (sl g) (1024 * i.val)) (hb : ∀ a, off a + S1x16x32x1024.size a ≤ S4x16x32x7168.size a) :
    bParts.view.readAt (Elt F) (Rect.unit (s := S4x16x32x7168) off S1x16x32x1024.size hb).toLoadRect fp = pS I g i := by
  subst ho
  funext j
  have e : (fp : Vec F S4x16x32x7168 .fp8e4m3) ((pSlot (sl g)).view.emb (ix3 (j 1) (j 2) (cOf i (j 3))))
      = I.XP ((pGrp g).view.emb (ix3 (j 1) (j 2) (cOf i (j 3)))) := congrFun h (ix3 (j 1) (j 2) (cOf i (j 3)))
  have e1 := emb_pSlot (sl g) (ix3 (j 1) (j 2) (cOf i (j 3)))
  have e2 := emb_pGrp g (ix3 (j 1) (j 2) (cOf i (j 3)))
  have e3 : (Rect.unit (s := S4x16x32x7168) (pslabOff (sl g) (1024 * i.val)) S1x16x32x1024.size hb).toLoadRect.idx j
      = (ix4 (sl g) (j 1) (j 2) (cOf i (j 3)) : S4x16x32x7168.Idx) := by
    have h0 : (j 0).val < 1 := (j 0).isLt
    funext a; apply Fin.ext; fin_cases a
    · show (sl g).val + 1 * (j 0).val = (sl g).val; omega
    · show 0 + 1 * (j 1).val = (j 1).val; omega
    · show 0 + 1 * (j 2).val = (j 2).val; omega
    · show 1024 * i.val + 1 * (j 3).val = 1024 * i.val + (j 3).val; omega
  show (fp : Vec F S4x16x32x7168 .fp8e4m3) _ = I.XP _
  rw [e3]
  refine (congrArg (fp : Vec F S4x16x32x7168 .fp8e4m3) e1.symm).trans (Eq.trans ?_ (congrArg I.XP e2))
  exact e

/-- A load of slab `i` inside the slot that group `g` of `x` was copied into. -/
theorem readX (i : Fin 7) (fx : (xSlot (sl g)).view.ty.Contents (Elt F))
    (h : (xSlot (sl g)).view.read (Elt F) fx = (xGrp g).view.read (Elt F) I.XX)
    (off : Fin 3 → ℕ) (ho : off = slabOff (sl g) (1024 * i.val)) (hb : ∀ a, off a + S1x32x1024.size a ≤ S4x32x7168.size a) :
    bX.view.readAt (Elt F) (Rect.unit (s := S4x32x7168) off S1x32x1024.size hb).toLoadRect fx = xS I g i := by
  subst ho
  funext j
  have e : (fx : Vec F S4x32x7168 .bf16) ((xSlot (sl g)).view.emb (ix2 (j 1) (cOf i (j 2))))
      = I.XX ((xGrp g).view.emb (ix2 (j 1) (cOf i (j 2)))) := congrFun h (ix2 (j 1) (cOf i (j 2)))
  have e1 := emb_xSlot (sl g) (ix2 (j 1) (cOf i (j 2)))
  have e2 := emb_xGrp g (ix2 (j 1) (cOf i (j 2)))
  have e3 : (Rect.unit (s := S4x32x7168) (slabOff (sl g) (1024 * i.val)) S1x32x1024.size hb).toLoadRect.idx j
      = (ix3 (sl g) (j 1) (cOf i (j 2)) : S4x32x7168.Idx) := by
    have h0 : (j 0).val < 1 := (j 0).isLt
    funext a; apply Fin.ext; fin_cases a
    · show (sl g).val + 1 * (j 0).val = (sl g).val; omega
    · show 0 + 1 * (j 1).val = (j 1).val; omega
    · show 1024 * i.val + 1 * (j 2).val = 1024 * i.val + (j 2).val; omega
  show (fx : Vec F S4x32x7168 .bf16) _ = I.XX _
  rw [e3]
  refine (congrArg (fx : Vec F S4x32x7168 .bf16) e1.symm).trans (Eq.trans ?_ (congrArg I.XX e2))
  exact e

/-- A load of slab `i` of a row of 7168. -/
theorem readRow_idx (i : Fin 7) (off : Fin 2 → ℕ) (ho : off = ![0, 1024 * i.val]) (hb : ∀ a, off a + S1x1024.size a ≤ S1x7168.size a)
    (j : S1x1024.Idx) : (Rect.unit (s := S1x7168) off S1x1024.size hb).toLoadRect.idx j = (ix2 0 (cOf i (j 1)) : S1x7168.Idx) := by
  subst ho
  have h0 : (j 0).val < 1 := (j 0).isLt
  funext a; apply Fin.ext; fin_cases a
  · show 0 + 1 * (j 0).val = 0; omega
  · show 1024 * i.val + 1 * (j 1).val = 1024 * i.val + (j 1).val; omega
theorem readB (i : Fin 7) (f : Vec F S1x7168 .f32) (off : Fin 2 → ℕ) (ho : off = ![0, 1024 * i.val]) (hb : ∀ a, off a + S1x1024.size a ≤ S1x7168.size a) :
    bBias.view.readAt (Elt F) (Rect.unit (s := S1x7168) off S1x1024.size hb).toLoadRect f = rowS f i :=
  funext fun j => congrArg f (readRow_idx i off ho hb j)
theorem readG (i : Fin 7) (f : Vec F S1x7168 .f32) (off : Fin 2 → ℕ) (ho : off = ![0, 1024 * i.val]) (hb : ∀ a, off a + S1x1024.size a ≤ S1x7168.size a) :
    bGain.view.readAt (Elt F) (Rect.unit (s := S1x7168) off S1x1024.size hb).toLoadRect f = rowS f i :=
  funext fun j => congrArg f (readRow_idx i off ho hb j)
/-- The load of the group's rows of the weights. -/
theorem readL (off : Fin 2 → ℕ) (ho : off = lhsOff g) (hb : ∀ a, off a + S32x512.size a ≤ S256x512.size a) :
    bLhs.view.readAt (Elt F) (Rect.unit (s := S256x512) off S32x512.size hb).toLoadRect I.L = lhsS I g := by
  subst ho
  funext j
  refine congrArg I.L ?_
  funext a; apply Fin.ext; fin_cases a
  · show 32 * g.val + 1 * (j 0).val = 32 * g.val + (j 0).val; omega
  · show 0 + 1 * (j 1).val = (j 1).val; omega

/-! ## The rows written slab by slab -/

/-- A slab stored at its columns of a group's rows is the group's row function there. -/
theorem slab_emb (i : Fin 7) (off : Fin 3 → ℕ) (ho : off = rslabOff g (1024 * i.val)) (hb : ∀ a, off a + S1x32x1024.size a ≤ S8x32x7168.size a)
    {α : Type} (w : Fin 7 → S1x32x1024.Idx → α) (x : S1x32x1024.Idx) :
    w i x = (fun y : S8x32x7168.Idx => w (iOf (y 2)) (ix3 0 (y 1) (dOf (y 2)))) ((Rect.unit (s := S8x32x7168) off S1x32x1024.size hb).emb x) := by
  subst ho
  have h2 : (x 2).val < 1024 := (x 2).isLt
  have hi := i.isLt
  have e1 : iOf (((Rect.unit (s := S8x32x7168) (rslabOff g (1024 * i.val)) S1x32x1024.size hb).emb x) 2) = i := by
    apply Fin.ext; show (1024 * i.val + 1 * (x 2).val) / 1024 = i.val; omega
  have e2 : (ix3 0 (((Rect.unit (s := S8x32x7168) (rslabOff g (1024 * i.val)) S1x32x1024.size hb).emb x) 1)
      (dOf (((Rect.unit (s := S8x32x7168) (rslabOff g (1024 * i.val)) S1x32x1024.size hb).emb x) 2)) : S1x32x1024.Idx) = x := by
    have h0 : (x 0).val < 1 := (x 0).isLt
    funext a; apply Fin.ext; fin_cases a
    · show 0 = (x 0).val; omega
    · show 0 + 1 * (x 1).val = (x 1).val; omega
    · show (1024 * i.val + 1 * (x 2).val) % 1024 = (x 2).val; omega
  show w i x = w (iOf _) (ix3 0 _ (dOf _))
  rw [e1, e2]

/-- The columns of slab `i` are in that slab's rectangle. -/
theorem slab_mem (i : Fin 7) (off : Fin 3 → ℕ) (ho : off = rslabOff g (1024 * i.val)) (hb : ∀ a, off a + S1x32x1024.size a ≤ S8x32x7168.size a)
    (t : Fin 32) (d : Fin 7168) (hd : d.val / 1024 = i.val) :
    (ix3 g t d : S8x32x7168.Idx) ∈ (Rect.unit (s := S8x32x7168) off S1x32x1024.size hb).set := by
  subst ho
  have := d.isLt; have := t.isLt
  rw [LoadRect.mem_set]
  intro a; fin_cases a
  · exact ⟨0, by show 0 < 1; omega, by show g.val = g.val + 1 * 0; omega⟩
  · exact ⟨t.val, t.isLt, by show t.val = 0 + 1 * t.val; omega⟩
  · exact ⟨d.val % 1024, by show d.val % 1024 < 1024; omega, by show d.val = 1024 * i.val + 1 * (d.val % 1024); omega⟩

theorem gOf_grp (t : Fin 32) : gOf (bOf g) (tOf g t) = g := by
  apply Fin.ext; show 4 * (g.val / 4) + (32 * (g.val % 4) + t.val) / 32 = g.val; omega
theorem rOf_grp (t : Fin 32) : rOf (tOf g t) = t := by
  apply Fin.ext; show (32 * (g.val % 4) + t.val) % 32 = t.val; omega

/-- A group's row function, read where the whole result keeps the group. -/
theorem row_eq_res (t : Fin 32) (d : Fin 7168) : rowRes I g (ix3 g t d) = Gres I (ix3 (bOf g) (tOf g t) d) := by
  show resS I g (iOf d) (ix3 0 t (dOf d)) = resS I (gOf (bOf g) (tOf g t)) (iOf d) (ix3 0 (rOf (tOf g t)) (dOf d))
  rw [gOf_grp, rOf_grp]
theorem row_eq_codes (t : Fin 32) (d : Fin 7168) : rowCodes I g (ix3 g t d) = Gcodes I (ix3 (bOf g) (tOf g t) d) := by
  show codeS I g (iOf d) (ix3 0 t (dOf d)) = codeS I (gOf (bOf g) (tOf g t)) (iOf d) (ix3 0 (rOf (tOf g t)) (dOf d))
  rw [gOf_grp, rOf_grp]

end Loads

/-- An index of `0 … 7167` lies in one of the seven slabs. -/
theorem slab_cases (d : Fin 7168) {p : Prop} (h : ∀ i : Fin 7, d.val / 1024 = i.val → p) : p :=
  h (iOf d) rfl

end Cert.Proof.Run

end
-- ==== Proof.Batch.lean ====
/-
  The sixteen output copies on one semaphore: what each delivers — a group's rows of the residual (even) or of the codes
  (odd) at their place in HBM, the VMEM rows given back — and the amounts.
-/
module

public import proofs.«01_k».proof.Proof.Reads
public import Idealize.ShloMosaic.Lib.VecWindow

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (Pipeline.UD sig nD τ) ℕ

abbrev 𝒱₀ : Variants := Variants.none
abbrev ECd : UEmb Counters (MT nD τ sig Unit (Elt F) ℕ (Pipeline.UD sig nD τ) ℕ) := countersEmb (U := Pipeline.UD sig nD τ)

/-- The rectangle of group `g` in the eight-group buffers. -/
abbrev rowRect (g : Fin 8) : Rect S8x32x7168 := Rect.unit (s := S8x32x7168) (rowOff g) S1x32x7168.size (rowOff_inb g)

theorem set_resRow (g : Fin 8) : (resRow g).view.set = bRes.view.setOn (rowRect g).set :=
  (View.set_reshape _ _).trans ((View.set_slice_whole _ _).trans (Finset.map_refl).symm)
theorem set_codesRow (g : Fin 8) : (codesRow g).view.set = bCodes.view.setOn (rowRect g).set :=
  (View.set_reshape _ _).trans ((View.set_slice_whole _ _).trans (Finset.map_refl).symm)

/-- Group `g`'s rows of the residual buffer in VMEM, holding `f`; and of the codes buffer. -/
def resP (c : Dev nD) (g : Fin 8) (f : Buf (Elt F) (bRes.view.loc (c : Thread nD τ))) : sProp 𝕄 :=
  (bRes.view.loc (c : Thread nD τ) ↦[bRes.view.setOn (rowRect g).set]{fullShare} f)
def codesP (c : Dev nD) (g : Fin 8) (f : Buf (Elt F) (bCodes.view.loc (c : Thread nD τ))) : sProp 𝕄 :=
  (bCodes.view.loc (c : Thread nD τ) ↦[bCodes.view.setOn (rowRect g).set]{fullShare} f)
/-- Group `g`'s rows of the residual in HBM, holding `f`; and of the codes. -/
def resO (c : Dev nD) (g : Fin 8) (f : Buf (Elt F) ((resOut g).view.loc (c : Thread nD τ))) : sProp 𝕄 :=
  ((resOut g).view.loc (c : Thread nD τ) ↦[(resOut g).view.set]{fullShare} f)
def codesO (c : Dev nD) (g : Fin 8) (f : Buf (Elt F) ((codesOut g).view.loc (c : Thread nD τ))) : sProp 𝕄 :=
  ((codesOut g).view.loc (c : Thread nD τ) ↦[(codesOut g).view.set]{fullShare} f)

instance (c : Dev nD) (g : Fin 8) (f) : Storable (upEmb : UEmb _ 𝕄) (resP c g f) := by unfold resP; infer_instance
instance (c : Dev nD) (g : Fin 8) (f) : Storable (upEmb : UEmb _ 𝕄) (codesP c g f) := by unfold codesP; infer_instance
instance (c : Dev nD) (g : Fin 8) (f) : Storable (upEmb : UEmb _ 𝕄) (resO c g f) := by unfold resO; infer_instance
instance (c : Dev nD) (g : Fin 8) (f) : Storable (upEmb : UEmb _ 𝕄) (codesO c g f) := by unfold codesO; infer_instance

/-- The results as contents of the HBM buffers. -/
def resG (I : Inp F) (c : Dev nD) (g : Fin 8) : Buf (Elt F) ((resOut g).view.loc (c : Thread nD τ)) := Gres I
def codesG (I : Inp F) (c : Dev nD) (g : Fin 8) : Buf (Elt F) ((codesOut g).view.loc (c : Thread nD τ)) := Gcodes I

/-- A view written with what it reads of `G` holds `G`. -/
theorem land (c : Dev nD) {sp : Space} {s : Shape} {e : EltTy} (v : View sig .tc sp s e) (fd G : Buf (Elt F) (v.loc (c : Thread nD τ)))
    (w : s.Idx → Elt F e) (hv : w = v.read (Elt F) G) :
    ((v.loc (c : Thread nD τ) ↦[v.set]{fullShare} v.write (Elt F) fd w Finset.univ) : sProp 𝕄) = (v.loc (c : Thread nD τ) ↦[v.set]{fullShare} G) := by
  subst hv
  refine pointsTo_congr fun i hi => ?_
  rw [View.write_read_eq_piecewise, View.setOn_univ]
  exact Finset.piecewise_eq_of_mem _ _ _ hi

/-- The group of a copy. -/
abbrev gT (t : Fin 16) : Fin 8 := ⟨t.val / 2, by omega⟩
/-- What copy `t` delivers. -/
def outD (I : Inp F) (c : Dev nD) (t : Fin 16) : sProp 𝕄 :=
  if t.val % 2 = 0 then iprop(resO c (gT t) (resG I c (gT t)) ∗ ∃ f, resP c (gT t) f)
  else iprop(codesO c (gT t) (codesG I c (gT t)) ∗ ∃ f, codesP c (gT t) f)
/-- What copy `t` credits. -/
def outA (t : Fin 16) : ℕ := if t.val % 2 = 0 then (resOut (gT t)).view.dmaCredit else (codesOut (gT t)).view.dmaCredit

instance (I : Inp F) (c : Dev nD) (t : Fin 16) : Storable (upEmb : UEmb _ 𝕄) (outD I c t) := by
  unfold outD; split_ifs <;> infer_instance

theorem outA_pos (t : Fin 16) : 0 < outA t := by
  unfold outA; split_ifs <;> exact View.dmaCredit_pos _ (by decide)

theorem outD_res (I : Inp F) (c : Dev nD) (g : Fin 8) (h : 2 * g.val < 16) :
    outD I c ⟨2 * g.val, h⟩ = iprop(resO c g (resG I c g) ∗ ∃ f, resP c g f) := by
  have e : gT ⟨2 * g.val, h⟩ = g := Fin.ext (by show 2 * g.val / 2 = g.val; omega)
  rw [outD, if_pos (by show 2 * g.val % 2 = 0; omega), e]
theorem outD_codes (I : Inp F) (c : Dev nD) (g : Fin 8) (h : 2 * g.val + 1 < 16) :
    outD I c ⟨2 * g.val + 1, h⟩ = iprop(codesO c g (codesG I c g) ∗ ∃ f, codesP c g f) := by
  have e : gT ⟨2 * g.val + 1, h⟩ = g := Fin.ext (by show (2 * g.val + 1) / 2 = g.val; omega)
  rw [outD, if_neg (by show ¬ (2 * g.val + 1) % 2 = 0; omega), e]
theorem outA_res (g : Fin 8) (h : 2 * g.val < 16) : (resOut g).view.dmaCredit = outA ⟨2 * g.val, h⟩ := by
  rw [outA, if_pos (by show 2 * g.val % 2 = 0; omega)]
theorem outA_codes (g : Fin 8) (h : 2 * g.val + 1 < 16) : (codesOut g).view.dmaCredit = outA ⟨2 * g.val + 1, h⟩ := by
  rw [outA, if_neg (by show ¬ (2 * g.val + 1) % 2 = 0; omega)]

/-- A landed copy of the residual's rows is the delivery, if the source rows are the result's rows. -/
theorem deliver_res (I : Inp F) (c : Dev nD) (g : Fin 8) (h : 2 * g.val < 16) (fs : Buf (Elt F) ((resRow g).view.loc (c : Thread nD τ)))
    (fd : Buf (Elt F) ((resOut g).view.loc (c : Thread nD τ)))
    (hv : (resRow g).view.read (Elt F) fs = (resOut g).view.read (Elt F) (resG I c g)) :
    (iprop(((resOut g).view.loc (c : Thread nD τ) ↦[(resOut g).view.set]{fullShare} (resOut g).view.write (Elt F) fd ((resRow g).view.read (Elt F) fs) Finset.univ)
      ∗ ((resRow g).view.loc (c : Thread nD τ) ↦[(resRow g).view.set]{fullShare} fs)) : sProp 𝕄) ⊢ outD I c ⟨2 * g.val, h⟩ := by
  rw [outD_res, land c _ fd (resG I c g) _ hv]
  unfold resO resP
  rw [set_resRow]
  iintro ⟨H1, H2⟩
  isplitl [H1]; · iexact H1
  iexists fs; iexact H2
theorem deliver_codes (I : Inp F) (c : Dev nD) (g : Fin 8) (h : 2 * g.val + 1 < 16) (fs : Buf (Elt F) ((codesRow g).view.loc (c : Thread nD τ)))
    (fd : Buf (Elt F) ((codesOut g).view.loc (c : Thread nD τ)))
    (hv : (codesRow g).view.read (Elt F) fs = (codesOut g).view.read (Elt F) (codesG I c g)) :
    (iprop(((codesOut g).view.loc (c : Thread nD τ) ↦[(codesOut g).view.set]{fullShare} (codesOut g).view.write (Elt F) fd ((codesRow g).view.read (Elt F) fs) Finset.univ)
      ∗ ((codesRow g).view.loc (c : Thread nD τ) ↦[(codesRow g).view.set]{fullShare} fs)) : sProp 𝕄) ⊢ outD I c ⟨2 * g.val + 1, h⟩ := by
  rw [outD_codes, land c _ fd (codesG I c g) _ hv]
  unfold codesO codesP
  rw [set_codesRow]
  iintro ⟨H1, H2⟩
  isplitl [H1]; · iexact H1
  iexists fs; iexact H2

/-! ## Seven slabs written are the group's rows -/

/-- Seven pieces at the seven slabs of group `g`'s rows, each the row function on its columns, read through a view of the
    rows as the row function. -/
theorem seven (g : Fin 8) {e : EltTy} {sp : Space} (v : View sig .tc sp S8x32x7168 e) (f : v.ty.Contents (Elt F))
    (w : Fin 7 → S1x32x1024.Idx → Elt F e) (o : Fin 7 → Fin 3 → ℕ) (ho : ∀ i, o i = rslabOff g (1024 * i.val))
    (hb : ∀ i a, o i a + S1x32x1024.size a ≤ S8x32x7168.size a) (t : Fin 32) (d : Fin 7168) :
    v.read (Elt F) (v.writes (Elt F) f
      [⟨Rect.unit (s := S8x32x7168) (o 6) S1x32x1024.size (hb 6), w 6⟩, ⟨Rect.unit (s := S8x32x7168) (o 5) S1x32x1024.size (hb 5), w 5⟩,
       ⟨Rect.unit (s := S8x32x7168) (o 4) S1x32x1024.size (hb 4), w 4⟩, ⟨Rect.unit (s := S8x32x7168) (o 3) S1x32x1024.size (hb 3), w 3⟩,
       ⟨Rect.unit (s := S8x32x7168) (o 2) S1x32x1024.size (hb 2), w 2⟩, ⟨Rect.unit (s := S8x32x7168) (o 1) S1x32x1024.size (hb 1), w 1⟩,
       ⟨Rect.unit (s := S8x32x7168) (o 0) S1x32x1024.size (hb 0), w 0⟩]) (ix3 g t d)
      = w (iOf d) (ix3 0 t (dOf d)) := by
  refine View.read_writes_apply_of_pieces v f (fun y : S8x32x7168.Idx => w (iOf (y 2)) (ix3 0 (y 1) (dOf (y 2)))) _ ?_ (ix3 g t d) ?_
  · intro p hp
    simp only [List.mem_cons, List.not_mem_nil, or_false] at hp
    rcases hp with rfl | rfl | rfl | rfl | rfl | rfl | rfl <;> intro x
    · exact slab_emb g 6 _ (ho 6) (hb 6) w x
    · exact slab_emb g 5 _ (ho 5) (hb 5) w x
    · exact slab_emb g 4 _ (ho 4) (hb 4) w x
    · exact slab_emb g 3 _ (ho 3) (hb 3) w x
    · exact slab_emb g 2 _ (ho 2) (hb 2) w x
    · exact slab_emb g 1 _ (ho 1) (hb 1) w x
    · exact slab_emb g 0 _ (ho 0) (hb 0) w x
  · have hm := fun i (hi : d.val / 1024 = i.val) => slab_mem g i (o i) (ho i) (hb i) t d hi
    refine slab_cases d fun i hi => ?_
    refine ⟨⟨Rect.unit (s := S8x32x7168) (o i) S1x32x1024.size (hb i), w i⟩, ?_, hm i hi⟩
    fin_cases i <;> simp

section Rows
variable (I : Inp F) (c : Dev nD) (g : Fin 8)

/-- The seven stores of a group's rows, as the program leaves them. -/
abbrev rows7 {e : EltTy} {o0 o1 o2 o3 o4 o5 o6 : Fin 3 → ℕ} (b0 : ∀ a, o0 a + S1x32x1024.size a ≤ S8x32x7168.size a) (b1 : ∀ a, o1 a + S1x32x1024.size a ≤ S8x32x7168.size a) (b2 : ∀ a, o2 a + S1x32x1024.size a ≤ S8x32x7168.size a) (b3 : ∀ a, o3 a + S1x32x1024.size a ≤ S8x32x7168.size a) (b4 : ∀ a, o4 a + S1x32x1024.size a ≤ S8x32x7168.size a) (b5 : ∀ a, o5 a + S1x32x1024.size a ≤ S8x32x7168.size a) (b6 : ∀ a, o6 a + S1x32x1024.size a ≤ S8x32x7168.size a)
    (w0 w1 w2 w3 w4 w5 w6 : S1x32x1024.Idx → Elt F e) : List (View.Piece (Elt F) S8x32x7168 e) :=
  [⟨Rect.unit (s := S8x32x7168) o6 S1x32x1024.size b6, w6⟩, ⟨Rect.unit (s := S8x32x7168) o5 S1x32x1024.size b5, w5⟩, ⟨Rect.unit (s := S8x32x7168) o4 S1x32x1024.size b4, w4⟩, ⟨Rect.unit (s := S8x32x7168) o3 S1x32x1024.size b3, w3⟩, ⟨Rect.unit (s := S8x32x7168) o2 S1x32x1024.size b2, w2⟩, ⟨Rect.unit (s := S8x32x7168) o1 S1x32x1024.size b1, w1⟩, ⟨Rect.unit (s := S8x32x7168) o0 S1x32x1024.size b0, w0⟩]

/-- Seven stored slabs of residual are the group's rows of the result. -/
theorem res_read (f : Buf (Elt F) (bRes.view.loc (c : Thread nD τ))) {o0 o1 o2 o3 o4 o5 o6 : Fin 3 → ℕ} {b0 : ∀ a, o0 a + S1x32x1024.size a ≤ S8x32x7168.size a} {b1 : ∀ a, o1 a + S1x32x1024.size a ≤ S8x32x7168.size a} {b2 : ∀ a, o2 a + S1x32x1024.size a ≤ S8x32x7168.size a} {b3 : ∀ a, o3 a + S1x32x1024.size a ≤ S8x32x7168.size a} {b4 : ∀ a, o4 a + S1x32x1024.size a ≤ S8x32x7168.size a} {b5 : ∀ a, o5 a + S1x32x1024.size a ≤ S8x32x7168.size a} {b6 : ∀ a, o6 a + S1x32x1024.size a ≤ S8x32x7168.size a}
    {w0 w1 w2 w3 w4 w5 w6 : S1x32x1024.Idx → Elt F .bf16}
    (e0 : o0 = rslabOff g (1024 * (0 : Fin 7).val)) (e1 : o1 = rslabOff g (1024 * (1 : Fin 7).val)) (e2 : o2 = rslabOff g (1024 * (2 : Fin 7).val)) (e3 : o3 = rslabOff g (1024 * (3 : Fin 7).val)) (e4 : o4 = rslabOff g (1024 * (4 : Fin 7).val)) (e5 : o5 = rslabOff g (1024 * (5 : Fin 7).val)) (e6 : o6 = rslabOff g (1024 * (6 : Fin 7).val))
    (h0 : w0 = resS I g 0) (h1 : w1 = resS I g 1) (h2 : w2 = resS I g 2) (h3 : w3 = resS I g 3) (h4 : w4 = resS I g 4) (h5 : w5 = resS I g 5) (h6 : w6 = resS I g 6) :
    (resRow g).view.read (Elt F) (bRes.view.writes (Elt F) f (rows7 b0 b1 b2 b3 b4 b5 b6 w0 w1 w2 w3 w4 w5 w6))
      = (resOut g).view.read (Elt F) (resG I c g) := by
  subst h0 h1 h2 h3 h4 h5 h6
  funext x
  have h := seven (F := F) (e := .bf16) g bRes.view f (resS I g) ![o0, o1, o2, o3, o4, o5, o6] (fun i => by fin_cases i; exacts [e0, e1, e2, e3, e4, e5, e6]) (fun i => by fin_cases i; exacts [b0, b1, b2, b3, b4, b5, b6]) (x 0) (x 1)
  have e : bRes.view.read (Elt F) (bRes.view.writes (Elt F) f (rows7 b0 b1 b2 b3 b4 b5 b6 (resS I g 0) (resS I g 1) (resS I g 2) (resS I g 3) (resS I g 4) (resS I g 5) (resS I g 6)))
      ((resRow g).view.emb x) = Gres I ((resOut g).view.emb x) := by
    rw [emb_resRow, emb_resOut]
    exact h.trans (row_eq_res I g (x 0) (x 1))
  exact e

theorem codes_read (f : Buf (Elt F) (bCodes.view.loc (c : Thread nD τ))) {o0 o1 o2 o3 o4 o5 o6 : Fin 3 → ℕ} {b0 : ∀ a, o0 a + S1x32x1024.size a ≤ S8x32x7168.size a} {b1 : ∀ a, o1 a + S1x32x1024.size a ≤ S8x32x7168.size a} {b2 : ∀ a, o2 a + S1x32x1024.size a ≤ S8x32x7168.size a} {b3 : ∀ a, o3 a + S1x32x1024.size a ≤ S8x32x7168.size a} {b4 : ∀ a, o4 a + S1x32x1024.size a ≤ S8x32x7168.size a} {b5 : ∀ a, o5 a + S1x32x1024.size a ≤ S8x32x7168.size a} {b6 : ∀ a, o6 a + S1x32x1024.size a ≤ S8x32x7168.size a}
    {w0 w1 w2 w3 w4 w5 w6 : S1x32x1024.Idx → Elt F .fp8e4m3}
    (e0 : o0 = rslabOff g (1024 * (0 : Fin 7).val)) (e1 : o1 = rslabOff g (1024 * (1 : Fin 7).val)) (e2 : o2 = rslabOff g (1024 * (2 : Fin 7).val)) (e3 : o3 = rslabOff g (1024 * (3 : Fin 7).val)) (e4 : o4 = rslabOff g (1024 * (4 : Fin 7).val)) (e5 : o5 = rslabOff g (1024 * (5 : Fin 7).val)) (e6 : o6 = rslabOff g (1024 * (6 : Fin 7).val))
    (h0 : w0 = codeS I g 0) (h1 : w1 = codeS I g 1) (h2 : w2 = codeS I g 2) (h3 : w3 = codeS I g 3) (h4 : w4 = codeS I g 4) (h5 : w5 = codeS I g 5) (h6 : w6 = codeS I g 6) :
    (codesRow g).view.read (Elt F) (bCodes.view.writes (Elt F) f (rows7 b0 b1 b2 b3 b4 b5 b6 w0 w1 w2 w3 w4 w5 w6))
      = (codesOut g).view.read (Elt F) (codesG I c g) := by
  subst h0 h1 h2 h3 h4 h5 h6
  funext x
  have h := seven (F := F) (e := .fp8e4m3) g bCodes.view f (codeS I g) ![o0, o1, o2, o3, o4, o5, o6] (fun i => by fin_cases i; exacts [e0, e1, e2, e3, e4, e5, e6]) (fun i => by fin_cases i; exacts [b0, b1, b2, b3, b4, b5, b6]) (x 0) (x 1)
  have e : bCodes.view.read (Elt F) (bCodes.view.writes (Elt F) f (rows7 b0 b1 b2 b3 b4 b5 b6 (codeS I g 0) (codeS I g 1) (codeS I g 2) (codeS I g 3) (codeS I g 4) (codeS I g 5) (codeS I g 6)))
      ((codesRow g).view.emb x) = Gcodes I ((codesOut g).view.emb x) := by
    rw [emb_codesRow, emb_codesOut]
    exact h.trans (row_eq_codes I g (x 0) (x 1))
  exact e

/-- Slab `i` loaded back from the seven stores is what was stored there. -/
theorem back (i : Fin 7) {o0 o1 o2 o3 o4 o5 o6 : Fin 3 → ℕ} {b0 : ∀ a, o0 a + S1x32x1024.size a ≤ S8x32x7168.size a} {b1 : ∀ a, o1 a + S1x32x1024.size a ≤ S8x32x7168.size a} {b2 : ∀ a, o2 a + S1x32x1024.size a ≤ S8x32x7168.size a} {b3 : ∀ a, o3 a + S1x32x1024.size a ≤ S8x32x7168.size a} {b4 : ∀ a, o4 a + S1x32x1024.size a ≤ S8x32x7168.size a} {b5 : ∀ a, o5 a + S1x32x1024.size a ≤ S8x32x7168.size a} {b6 : ∀ a, o6 a + S1x32x1024.size a ≤ S8x32x7168.size a}
    {w0 w1 w2 w3 w4 w5 w6 : S1x32x1024.Idx → Elt F .bf16}
    (e0 : o0 = rslabOff g (1024 * (0 : Fin 7).val)) (e1 : o1 = rslabOff g (1024 * (1 : Fin 7).val)) (e2 : o2 = rslabOff g (1024 * (2 : Fin 7).val)) (e3 : o3 = rslabOff g (1024 * (3 : Fin 7).val)) (e4 : o4 = rslabOff g (1024 * (4 : Fin 7).val)) (e5 : o5 = rslabOff g (1024 * (5 : Fin 7).val)) (e6 : o6 = rslabOff g (1024 * (6 : Fin 7).val))
    (h0 : w0 = resS I g 0) (h1 : w1 = resS I g 1) (h2 : w2 = resS I g 2) (h3 : w3 = resS I g 3) (h4 : w4 = resS I g 4) (h5 : w5 = resS I g 5) (h6 : w6 = resS I g 6) (o : Fin 3 → ℕ) (ho : o = rslabOff g (1024 * i.val)) (hb : ∀ a, o a + S1x32x1024.size a ≤ S8x32x7168.size a) :
    bRes.view.readCov (rows7 b0 b1 b2 b3 b4 b5 b6 w0 w1 w2 w3 w4 w5 w6) (Rect.unit (s := S8x32x7168) o S1x32x1024.size hb).toLoadRect = resS I g i := by
  subst h0 h1 h2 h3 h4 h5 h6
  subst ho
  refine funext fun (x : S1x32x1024.Idx) => ?_
  have hx0 : (x 0).val < 1 := (x 0).isLt
  have hx2 : (x 2).val < 1024 := (x 2).isLt
  have h := seven (F := F) (e := .bf16) g bRes.view bRes.view.junk (resS I g) ![o0, o1, o2, o3, o4, o5, o6] (fun i => by fin_cases i; exacts [e0, e1, e2, e3, e4, e5, e6]) (fun i => by fin_cases i; exacts [b0, b1, b2, b3, b4, b5, b6]) (x 1) (cOf i (x 2))
  have ei : iOf (cOf i (x 2)) = i := Fin.ext (by show (1024 * i.val + (x 2).val) / 1024 = i.val; omega)
  have ed : dOf (cOf i (x 2)) = x 2 := Fin.ext (by show (1024 * i.val + (x 2).val) % 1024 = (x 2).val; omega)
  have ex : (ix3 0 (x 1) (x 2) : S1x32x1024.Idx) = x := by
    funext a; apply Fin.ext; fin_cases a
    · show 0 = (x 0).val; omega
    · rfl
    · rfl
  have er : (Rect.unit (s := S8x32x7168) (rslabOff g (1024 * i.val)) S1x32x1024.size hb).toLoadRect.idx x = (ix3 g (x 1) (cOf i (x 2)) : S8x32x7168.Idx) := by
    funext a; apply Fin.ext; fin_cases a
    · show g.val + 1 * (x 0).val = g.val; omega
    · show 0 + 1 * (x 1).val = (x 1).val; omega
    · show 1024 * i.val + 1 * (x 2).val = 1024 * i.val + (x 2).val; omega
  refine Eq.trans (congrArg (bRes.view.read (Elt F) (bRes.view.writes (Elt F) bRes.view.junk _)) er) (h.trans ?_)
  rw [ei]
  exact congrArg (resS I g i) (by rw [ed]; exact ex)

end Rows

/-! ## The words of a group -/

section Vals
variable (I : Inp F) (g : Fin 8)

theorem res_word {i : Fin 7} {w : Vec F S32x512 .bf16} {P : Vec F S1x16x32x1024 .fp8e4m3} {B : Vec F S1x1024 .f32} {X : Vec F S1x32x1024 .bf16}
    (hw : w = lhsS I g) (hP : P = pS I g i) (hB : B = rowS I.B i) (hX : X = xS I g i) : k0_pay3 w P B X = resS I g i := by
  subst hw hP hB hX; rfl

theorem code_word {i : Fin 7} {v : FVec F S1x1 .f32} {iv : FVec F S32x1 .f32} {r : Vec F S1x32x1024 .bf16} {G : Vec F S1x1024 .f32}
    (hv : v = I.sc) (hi : iv = invS I g) (hr : r = resS I g i) (hG : G = rowS I.G i) : k0_pay41 v iv r G = codeS I g i := by
  subst hv hi hr hG; rfl

theorem vec7 {α : Type} (f : Fin 7 → α) : ![f 0, f 1, f 2, f 3, f 4, f 5, f 6] = f := by
  funext i; fin_cases i <;> rfl

/-- The reciprocal root mean square the program computes is the group's. -/
theorem inv_word {w : Vec F S32x512 .bf16} {P0 P1 P2 P3 P4 P5 P6 : Vec F S1x16x32x1024 .fp8e4m3} {B0 B1 B2 B3 B4 B5 B6 : Vec F S1x1024 .f32}
    {X0 X1 X2 X3 X4 X5 X6 : Vec F S1x32x1024 .bf16} (hw : w = lhsS I g)
    (hP0 : P0 = pS I g 0) (hB0 : B0 = rowS I.B 0) (hX0 : X0 = xS I g 0) (hP1 : P1 = pS I g 1) (hB1 : B1 = rowS I.B 1) (hX1 : X1 = xS I g 1) (hP2 : P2 = pS I g 2) (hB2 : B2 = rowS I.B 2) (hX2 : X2 = xS I g 2) (hP3 : P3 = pS I g 3) (hB3 : B3 = rowS I.B 3) (hX3 : X3 = xS I g 3) (hP4 : P4 = pS I g 4) (hB4 : B4 = rowS I.B 4) (hX4 : X4 = xS I g 4) (hP5 : P5 = pS I g 5) (hB5 : B5 = rowS I.B 5) (hX5 : X5 = xS I g 5) (hP6 : P6 = pS I g 6) (hB6 : B6 = rowS I.B 6) (hX6 : X6 = xS I g 6) :
    k0_pay35 (k0_pay32 w P6 B6 X6)
      (k0_pay33 w (k0_pay27 w P5 B5 X5)
        (k0_pay28 w (k0_pay22 w P4 B4 X4)
          (k0_pay23 w (k0_pay17 w P3 B3 X3)
            (k0_pay18 w (k0_pay12 w P2 B2 X2)
              (k0_pay13 w (k0_pay8 w (k0_pay4 w (k0_pay1 (F := F)) P0 B0 X0) P1 B1 X1) (k0_pay9 w P1 B1 X1) P2 B2 X2)
              (k0_pay14 w P2 B2 X2) P3 B3 X3)
            (k0_pay19 w P3 B3 X3) P4 B4 X4)
          (k0_pay24 w P4 B4 X4) P5 B5 X5)
        (k0_pay29 w P5 B5 X5) P6 B6 X6)
      (k0_pay34 w P6 B6 X6) = invS I g := by
  subst hw
  subst hP0 hB0 hX0 hP1 hB1 hX1 hP2 hB2 hX2 hP3 hB3 hX3 hP4 hB4 hX4 hP5 hB5 hX5 hP6 hB6 hX6
  rw [inv_eq, vec7 (pS I g), vec7 (rowS I.B), vec7 (xS I g)]; rfl

/-- The running maximum the program stores is the next group's. -/
theorem amax_word {v681 : FVec F S32x1024 .f32} {v701 v702 : FVec F S32x128 .f32} {a : Vec F S32x128 .f32}
    {R0 R1 R2 R3 R4 R5 R6 : Vec F S1x32x1024 .bf16} {G0 G1 G2 G3 G4 G5 G6 : Vec F S1x1024 .f32}
    (hi : k0_pay35 v681 v701 v702 = invS I g) (ha : a = amaxS I g.val)
    (hR0 : R0 = resS I g 0) (hG0 : G0 = rowS I.G 0) (hR1 : R1 = resS I g 1) (hG1 : G1 = rowS I.G 1) (hR2 : R2 = resS I g 2) (hG2 : G2 = rowS I.G 2) (hR3 : R3 = resS I g 3) (hG3 : G3 = rowS I.G 3) (hR4 : R4 = resS I g 4) (hG4 : G4 = rowS I.G 4) (hR5 : R5 = resS I g 5) (hG5 : G5 = rowS I.G 5) (hR6 : R6 = resS I g 6) (hG6 : G6 = rowS I.G 6) :
    (let iv := k0_pay35 v681 v701 v702
     k0_pay59 iv (k0_pay56 iv (k0_pay52 iv R4 G4)
        (k0_pay53 iv (k0_pay45 iv (k0_pay42 iv (k0_pay38 v681 v701 v702 R0 G0) (k0_pay39 v681 v701 v702 a R0 G0) R1 G1) R2 G2)
          (k0_pay46 iv R3 G3) R4 G4) R5 G5) R6 G6) = amaxS I (g.val + 1) := by
  subst ha
  subst hR0 hG0 hR1 hG1 hR2 hG2 hR3 hG3 hR4 hG4 hR5 hG5 hR6 hG6
  rw [amax_eq, hi, amaxS_succ, vec7 (resS I g), vec7 (rowS I.G)]

/-- A whole store over the accumulator leaves its word; a whole load reads the contents. -/
theorem acc_store (f : Vec F S32x128 .f32) {off : Fin 2 → ℕ} (h : ∀ a, off a + S32x128.size a ≤ S32x128.size a) (w : S32x128.Idx → Elt F .f32) :
    bAcc.view.writes (Elt F) f [⟨Rect.unit (s := S32x128) off S32x128.size h, w⟩] = w :=
  View.read_writes_full bAcc.view f h w []
theorem acc_load (f : Vec F S32x128 .f32) {off : Fin 2 → ℕ} (h : ∀ a, off a + S32x128.size a ≤ S32x128.size a) :
    bAcc.view.readAt (Elt F) (Rect.unit (s := S32x128) off S32x128.size h).toLoadRect f = f :=
  View.readAt_full bAcc.view f h

end Vals

/-! ## A group's rows ready to leave -/

section Go
/-- A goal of the proof mode reached through another. -/
theorem go_step {P Q R : sProp 𝕄} (h : Q ⊢ R) (hP : Entails' P Q) : Entails' P R := BIBase.Entails.trans hP h

theorem go_gen {A : Type} (φ : A → Prop) (P : A → sProp 𝕄) (a : A) (h : φ a) {Q : sProp 𝕄} :
    (iprop(∀ a, ⌜φ a⌝ -∗ P a -∗ Q) : sProp 𝕄) ⊢ iprop(P a -∗ Q) := by
  iintro HQ HP
  iapply HQ $$ %a %h HP
variable (I : Inp F) (c : Dev nD) (g : Fin 8)

theorem res_go {Q : sProp 𝕄} (f : Buf (Elt F) (bRes.view.loc (c : Thread nD τ))) {o0 o1 o2 o3 o4 o5 o6 : Fin 3 → ℕ} {b0 : ∀ a, o0 a + S1x32x1024.size a ≤ S8x32x7168.size a} {b1 : ∀ a, o1 a + S1x32x1024.size a ≤ S8x32x7168.size a} {b2 : ∀ a, o2 a + S1x32x1024.size a ≤ S8x32x7168.size a} {b3 : ∀ a, o3 a + S1x32x1024.size a ≤ S8x32x7168.size a} {b4 : ∀ a, o4 a + S1x32x1024.size a ≤ S8x32x7168.size a} {b5 : ∀ a, o5 a + S1x32x1024.size a ≤ S8x32x7168.size a} {b6 : ∀ a, o6 a + S1x32x1024.size a ≤ S8x32x7168.size a}
    {w0 w1 w2 w3 w4 w5 w6 : S1x32x1024.Idx → Elt F .bf16}
    (e0 : o0 = rslabOff g (1024 * (0 : Fin 7).val)) (e1 : o1 = rslabOff g (1024 * (1 : Fin 7).val)) (e2 : o2 = rslabOff g (1024 * (2 : Fin 7).val)) (e3 : o3 = rslabOff g (1024 * (3 : Fin 7).val)) (e4 : o4 = rslabOff g (1024 * (4 : Fin 7).val)) (e5 : o5 = rslabOff g (1024 * (5 : Fin 7).val)) (e6 : o6 = rslabOff g (1024 * (6 : Fin 7).val))
    (h0 : w0 = resS I g 0) (h1 : w1 = resS I g 1) (h2 : w2 = resS I g 2) (h3 : w3 = resS I g 3) (h4 : w4 = resS I g 4) (h5 : w5 = resS I g 5) (h6 : w6 = resS I g 6) :
    (iprop(∀ f' : Buf (Elt F) ((resRow g).view.loc (c : Thread nD τ)), ⌜(resRow g).view.read (Elt F) f' = (resOut g).view.read (Elt F) (resG I c g)⌝
        -∗ ((resRow g).view.loc (c : Thread nD τ) ↦[(resRow g).view.set]{fullShare} f') -∗ Q) : sProp 𝕄)
      ⊢ iprop((bRes.view.loc (c : Thread nD τ) ↦[bRes.view.setOn (rowRect g).set]{fullShare}
          bRes.view.writes (Elt F) f (rows7 b0 b1 b2 b3 b4 b5 b6 w0 w1 w2 w3 w4 w5 w6)) -∗ Q) := by
  have hr := res_read I c g f (b0 := b0) (b1 := b1) (b2 := b2) (b3 := b3) (b4 := b4) (b5 := b5) (b6 := b6) e0 e1 e2 e3 e4 e5 e6 h0 h1 h2 h3 h4 h5 h6
  rw [set_resRow]
  exact go_gen (fun f' : Buf (Elt F) ((resRow g).view.loc (c : Thread nD τ)) => (resRow g).view.read (Elt F) f' = (resOut g).view.read (Elt F) (resG I c g))
    (fun f' => ((resRow g).view.loc (c : Thread nD τ) ↦[bRes.view.setOn (rowRect g).set]{fullShare} f')) _ hr

theorem codes_go {Q : sProp 𝕄} (f : Buf (Elt F) (bCodes.view.loc (c : Thread nD τ))) {o0 o1 o2 o3 o4 o5 o6 : Fin 3 → ℕ} {b0 : ∀ a, o0 a + S1x32x1024.size a ≤ S8x32x7168.size a} {b1 : ∀ a, o1 a + S1x32x1024.size a ≤ S8x32x7168.size a} {b2 : ∀ a, o2 a + S1x32x1024.size a ≤ S8x32x7168.size a} {b3 : ∀ a, o3 a + S1x32x1024.size a ≤ S8x32x7168.size a} {b4 : ∀ a, o4 a + S1x32x1024.size a ≤ S8x32x7168.size a} {b5 : ∀ a, o5 a + S1x32x1024.size a ≤ S8x32x7168.size a} {b6 : ∀ a, o6 a + S1x32x1024.size a ≤ S8x32x7168.size a}
    {w0 w1 w2 w3 w4 w5 w6 : S1x32x1024.Idx → Elt F .fp8e4m3}
    (e0 : o0 = rslabOff g (1024 * (0 : Fin 7).val)) (e1 : o1 = rslabOff g (1024 * (1 : Fin 7).val)) (e2 : o2 = rslabOff g (1024 * (2 : Fin 7).val)) (e3 : o3 = rslabOff g (1024 * (3 : Fin 7).val)) (e4 : o4 = rslabOff g (1024 * (4 : Fin 7).val)) (e5 : o5 = rslabOff g (1024 * (5 : Fin 7).val)) (e6 : o6 = rslabOff g (1024 * (6 : Fin 7).val))
    (h0 : w0 = codeS I g 0) (h1 : w1 = codeS I g 1) (h2 : w2 = codeS I g 2) (h3 : w3 = codeS I g 3) (h4 : w4 = codeS I g 4) (h5 : w5 = codeS I g 5) (h6 : w6 = codeS I g 6) :
    (iprop(∀ f' : Buf (Elt F) ((codesRow g).view.loc (c : Thread nD τ)), ⌜(codesRow g).view.read (Elt F) f' = (codesOut g).view.read (Elt F) (codesG I c g)⌝
        -∗ ((codesRow g).view.loc (c : Thread nD τ) ↦[(codesRow g).view.set]{fullShare} f') -∗ Q) : sProp 𝕄)
      ⊢ iprop((bCodes.view.loc (c : Thread nD τ) ↦[bCodes.view.setOn (rowRect g).set]{fullShare}
          bCodes.view.writes (Elt F) f (rows7 b0 b1 b2 b3 b4 b5 b6 w0 w1 w2 w3 w4 w5 w6)) -∗ Q) := by
  have hr := codes_read I c g f (b0 := b0) (b1 := b1) (b2 := b2) (b3 := b3) (b4 := b4) (b5 := b5) (b6 := b6) e0 e1 e2 e3 e4 e5 e6 h0 h1 h2 h3 h4 h5 h6
  rw [set_codesRow]
  exact go_gen (fun f' : Buf (Elt F) ((codesRow g).view.loc (c : Thread nD τ)) => (codesRow g).view.read (Elt F) f' = (codesOut g).view.read (Elt F) (codesG I c g))
    (fun f' => ((codesRow g).view.loc (c : Thread nD τ) ↦[bCodes.view.setOn (rowRect g).set]{fullShare} f')) _ hr

theorem acc_go {Q : sProp 𝕄} (f : Buf (Elt F) (bAcc.view.loc (c : Thread nD τ))) {off : Fin 2 → ℕ} {h : ∀ a, off a + S32x128.size a ≤ S32x128.size a}
    {w : S32x128.Idx → Elt F .f32} {n : ℕ} (hw : w = amaxS I n) :
    (iprop((bAcc.view.loc (c : Thread nD τ) ↦{fullShare} (amaxS I n : Buf (Elt F) (bAcc.view.loc (c : Thread nD τ)))) -∗ Q) : sProp 𝕄)
      ⊢ iprop((bAcc.view.loc (c : Thread nD τ) ↦{fullShare} bAcc.view.writes (Elt F) f [⟨Rect.unit (s := S32x128) off S32x128.size h, w⟩]) -∗ Q) := by
  subst hw
  rw [acc_store]

end Go

end Cert.Proof.Run

end
-- ==== Proof.Trip.lean ====
/-
  One trip of the loop over the eight groups: the group's two flights are waited for, its rows computed, the running maximum
  moved on, the rows' two copies to HBM put on the shared output semaphore, and (for the first four groups) the slot filled again.
-/
module

public import proofs.«01_k».proof.Proof.Batch

@[expose] public section

set_option maxRecDepth 16384
set_option backward.proofsInPublic true

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- Group `g`'s part of the partials in HBM, and of `x`. -/
def xpB (I : Inp F) (c : Dev nD) (g : Fin 8) : Buf (Elt F) ((pGrp g).view.loc (c : Thread nD τ)) := I.XP
def xxB (I : Inp F) (c : Dev nD) (g : Fin 8) : Buf (Elt F) ((xGrp g).view.loc (c : Thread nD τ)) := I.XX
abbrev pHome (I : Inp F) (c : Dev nD) (g : Fin 8) : sProp 𝕄 := ((pGrp g).view.loc (c : Thread nD τ) ↦[(pGrp g).view.set]{fullShare} xpB I c g)
abbrev xHome (I : Inp F) (c : Dev nD) (g : Fin 8) : sProp 𝕄 := ((xGrp g).view.loc (c : Thread nD τ) ↦[(xGrp g).view.set]{fullShare} xxB I c g)

/-- Group `g`'s partials in flight into slot `s` (contents `f`), and its `x`. -/
abbrev pFly (I : Inp F) (c : Dev nD) (s : Fin 4) (g : Fin 8) (f : Buf (Elt F) ((pSlot s).view.loc (c : Thread nD τ))) : sProp 𝕄 :=
  Transfers.Flight (countersEmb (U := Pipeline.UD sig nD τ)) (c : Thread nD τ) (SemLoc.dma (pSem s).sem) () ((pSlot s).view.amount (SemLoc.dma (pSem s).sem))
    iprop(((pSlot s).view.loc (c : Thread nD τ) ↦[(pSlot s).view.set]{fullShare} f) ∗ pHome I c g)
abbrev xFly (I : Inp F) (c : Dev nD) (s : Fin 4) (g : Fin 8) (f : Buf (Elt F) ((xSlot s).view.loc (c : Thread nD τ))) : sProp 𝕄 :=
  Transfers.Flight (countersEmb (U := Pipeline.UD sig nD τ)) (c : Thread nD τ) (SemLoc.dma (xSem s).sem) () ((xSlot s).view.amount (SemLoc.dma (xSem s).sem))
    iprop(((xSlot s).view.loc (c : Thread nD τ) ↦[(xSlot s).view.set]{fullShare} f) ∗ xHome I c g)
def pFl (I : Inp F) (c : Dev nD) (s : Fin 4) (g : Fin 8) : sProp 𝕄 :=
  iprop(∃ f : Buf (Elt F) ((pSlot s).view.loc (c : Thread nD τ)), ⌜(pSlot s).view.read (Elt F) f = (pGrp g).view.read (Elt F) (xpB I c g)⌝ ∗ pFly I c s g f)
def xFl (I : Inp F) (c : Dev nD) (s : Fin 4) (g : Fin 8) : sProp 𝕄 :=
  iprop(∃ f : Buf (Elt F) ((xSlot s).view.loc (c : Thread nD τ)), ⌜(xSlot s).view.read (Elt F) f = (xGrp g).view.read (Elt F) (xxB I c g)⌝ ∗ xFly I c s g f)
/-- A landed copy's contents read as the copied group. -/
theorem pFl_intro (I : Inp F) (c : Dev nD) (s : Fin 4) (g : Fin 8) (f : Buf (Elt F) ((pSlot s).view.loc (c : Thread nD τ))) :
    pFly I c s g ((pSlot s).view.writes (Elt F) f [⟨Rect.whole S16x32x7168, (pGrp g).view.read (Elt F) (xpB I c g)⟩]) ⊢ pFl I c s g := by
  unfold pFl
  iintro H
  iexists _
  isplitr
  rotate_left
  · iexact H
  ipureintro
  rw [← View.write_univ_eq_writes_whole]
  exact View.read_write_univ _ _
theorem xFl_intro (I : Inp F) (c : Dev nD) (s : Fin 4) (g : Fin 8) (f : Buf (Elt F) ((xSlot s).view.loc (c : Thread nD τ))) :
    xFly I c s g ((xSlot s).view.writes (Elt F) f [⟨Rect.whole S32x7168, (xGrp g).view.read (Elt F) (xxB I c g)⟩]) ⊢ xFl I c s g := by
  unfold xFl
  iintro H
  iexists _
  isplitr
  rotate_left
  · iexact H
  ipureintro
  rw [← View.write_univ_eq_writes_whole]
  exact View.read_write_univ _ _

/-- Slot `s` free, its cell at zero. -/
def pFree (c : Dev nD) (s : Fin 4) : sProp 𝕄 :=
  iprop((∃ f, ((pSlot s).view.loc (c : Thread nD τ) ↦[(pSlot s).view.set]{fullShare} f)) ∗ semVal ((c : Thread nD τ), SemLoc.dma (pSem s).sem) 0)
def xFree (c : Dev nD) (s : Fin 4) : sProp 𝕄 :=
  iprop((∃ f, ((xSlot s).view.loc (c : Thread nD τ) ↦[(xSlot s).view.set]{fullShare} f)) ∗ semVal ((c : Thread nD τ), SemLoc.dma (xSem s).sem) 0)

/-- The batch of output copies, `n` issued. -/
def outB (I : Inp F) (c : Dev nD) (n : ℕ) : sProp 𝕄 :=
  Transfers.MixedBatch (ECd (F := F)) (c : Thread nD τ) (SemLoc.dma (SemArray.sem cc0_scratch17)) () outA (outD I c) n 0

/-- What every trip keeps whole: the weights, the bias and gain rows, the running maximum. -/
def keepB (I : Inp F) (c : Dev nD) (n : ℕ) : sProp 𝕄 :=
  iprop((bLhs.view.loc (c : Thread nD τ) ↦{fullShare} (I.L : Buf (Elt F) (bLhs.view.loc (c : Thread nD τ))))
   ∗ (bBias.view.loc (c : Thread nD τ) ↦{fullShare} (I.B : Buf (Elt F) (bBias.view.loc (c : Thread nD τ))))
   ∗ (bGain.view.loc (c : Thread nD τ) ↦{fullShare} (I.G : Buf (Elt F) (bGain.view.loc (c : Thread nD τ))))
   ∗ (bAcc.view.loc (c : Thread nD τ) ↦{fullShare} (amaxS I n : Buf (Elt F) (bAcc.view.loc (c : Thread nD τ)))))
/-- The rows group `g` has not written yet, in VMEM and in HBM. -/
def todo (c : Dev nD) (g : Fin 8) : sProp 𝕄 :=
  iprop((∃ f, resP (F := F) c g f) ∗ (∃ f, codesP (F := F) c g f) ∗ (∃ f, resO (F := F) c g f) ∗ (∃ f, codesO (F := F) c g f))

/-- Before trip `k`: the next group of the slot at home (the first four trips); after it: that group in flight, or the slot free. -/
def refill (I : Inp F) (c : Dev nD) (k : Fin k0_t1_loop.trips) : sProp 𝕄 :=
  if h : k.val < 4 then iprop(pHome I c (gi4 k h) ∗ xHome I c (gi4 k h)) else iprop(emp)
def refilled (I : Inp F) (c : Dev nD) (k : Fin k0_t1_loop.trips) : sProp 𝕄 :=
  if h : k.val < 4 then iprop(pFl I c (sl (gi k)) (gi4 k h) ∗ xFl I c (sl (gi k)) (gi4 k h))
  else iprop(pFree (F := F) c (sl (gi k)) ∗ xFree (F := F) c (sl (gi k)))

theorem refill_pos (I : Inp F) (c : Dev nD) (k : Fin k0_t1_loop.trips) (h : k.val < 4) : refill I c k = iprop(pHome I c (gi4 k h) ∗ xHome I c (gi4 k h)) :=
  dif_pos h
theorem refill_neg (I : Inp F) (c : Dev nD) (k : Fin k0_t1_loop.trips) (h : ¬ k.val < 4) : refill I c k = (iprop(emp) : sProp 𝕄) := dif_neg h
theorem refilled_pos (I : Inp F) (c : Dev nD) (k : Fin k0_t1_loop.trips) (h : k.val < 4) :
    refilled I c k = iprop(pFl I c (sl (gi k)) (gi4 k h) ∗ xFl I c (sl (gi k)) (gi4 k h)) := dif_pos h
theorem refilled_neg (I : Inp F) (c : Dev nD) (k : Fin k0_t1_loop.trips) (h : ¬ k.val < 4) :
    refilled I c k = iprop(pFree (F := F) c (sl (gi k)) ∗ xFree (F := F) c (sl (gi k))) := dif_neg h

/-- The group's residual rows put on the output semaphore. -/
theorem issue_res (I : Inp F) (c : Dev nD) (g : Fin 8) (fs : Buf (Elt F) ((resRow g).view.loc (c : Thread nD τ)))
    (fd : Buf (Elt F) ((resOut g).view.loc (c : Thread nD τ)))
    (hv : (resRow g).view.read (Elt F) fs = (resOut g).view.read (Elt F) (resG I c g))
    {hsrc : (resRow g).view.WordExact} {hdst : (resOut g).view.WordExact}
    {hsem : DmaTarget.Typed (nD := nD) .vmem (SemLoc.dma (SemArray.sem cc0_scratch17)) (DmaTarget.here (τ := τ) (p := (c : Thread nD τ).2) (resOut g))} {α : Type} {Q : α → sProp 𝕄}
    {k : PUnit.{1} → Prog (TpuEff nD τ sig (Elt F) Λ₀ (c : Thread nD τ).2) α} :
    (iprop(((resRow g).view.loc (c : Thread nD τ) ↦[(resRow g).view.set]{fullShare} fs) ∗ resO c g fd ∗ outB I c (2 * g.val)) : sProp 𝕄)
      ⊢ iprop((outB I c (2 * g.val + 1) -∗ wp frame (wpE defs₀ 𝒱₀ (c : Thread nD τ) none) Set.univ (k ⟨⟩) Q)
          -∗ wp frame (wpE defs₀ 𝒱₀ (c : Thread nD τ) none) Set.univ
            (.op (.enqueueDma (resRow g) (.here (resOut g)) (SemLoc.dma (SemArray.sem cc0_scratch17)) hsrc hdst hsem) k) Q) := by
  have h16 : 2 * g.val < 16 := by omega
  exact Transfers.wp_dmaMixedBatch (ECd (F := F)) 𝒱₀ (c : Thread nD τ) none () outA subset_rfl h16 (outA_res g h16) (Nat.zero_le _)
    (deliver_res I c g h16 fs fd hv)

theorem issue_codes (I : Inp F) (c : Dev nD) (g : Fin 8) (fs : Buf (Elt F) ((codesRow g).view.loc (c : Thread nD τ)))
    (fd : Buf (Elt F) ((codesOut g).view.loc (c : Thread nD τ)))
    (hv : (codesRow g).view.read (Elt F) fs = (codesOut g).view.read (Elt F) (codesG I c g))
    {hsrc : (codesRow g).view.WordExact} {hdst : (codesOut g).view.WordExact}
    {hsem : DmaTarget.Typed (nD := nD) .vmem (SemLoc.dma (SemArray.sem cc0_scratch17)) (DmaTarget.here (τ := τ) (p := (c : Thread nD τ).2) (codesOut g))} {α : Type} {Q : α → sProp 𝕄}
    {k : PUnit.{1} → Prog (TpuEff nD τ sig (Elt F) Λ₀ (c : Thread nD τ).2) α} :
    (iprop(((codesRow g).view.loc (c : Thread nD τ) ↦[(codesRow g).view.set]{fullShare} fs) ∗ codesO c g fd ∗ outB I c (2 * g.val + 1)) : sProp 𝕄)
      ⊢ iprop((outB I c (2 * g.val + 1 + 1) -∗ wp frame (wpE defs₀ 𝒱₀ (c : Thread nD τ) none) Set.univ (k ⟨⟩) Q)
          -∗ wp frame (wpE defs₀ 𝒱₀ (c : Thread nD τ) none) Set.univ
            (.op (.enqueueDma (codesRow g) (.here (codesOut g)) (SemLoc.dma (SemArray.sem cc0_scratch17)) hsrc hdst hsem) k) Q) := by
  have h16 : 2 * g.val + 1 < 16 := by omega
  exact Transfers.wp_dmaMixedBatch (ECd (F := F)) 𝒱₀ (c : Thread nD τ) none () outA subset_rfl h16 (outA_codes g h16) (Nat.zero_le _)
    (deliver_codes I c g h16 fs fd hv)

theorem trip (I : Inp F) (c : Dev nD) (k : Fin k0_t1_loop.trips) (v165 : IVec S1x1 32) (v167 : IVec S1x1 1) (c255 : BitVec 32)
   (hsc : k0_pay69 v165 v167 c255 = I.sc) :
  (iprop(pFl I c (sl (gi k)) (gi k) ∗ xFl I c (sl (gi k)) (gi k) ∗ refill I c k
     ∗ keepB I c (gi k).val ∗ outB I c (2 * (gi k).val) ∗ todo c (gi k) ∗ (∃ W, owes (c : Thread nD τ) 0 W)) : sProp 𝕄)
  ⊢ wp frame (wpE defs₀ 𝒱₀ (c : Thread nD τ) none) Set.univ
     (k0_t1_body (F:=F) aParts (Memref.isWhole_whole _) aScales (Memref.isWhole_whole _) aBias (Memref.isWhole_whole _) aX (Memref.isWhole_whole _) aGain (Memref.isWhole_whole _) aHist (Memref.isWhole_whole _) oRes (Memref.isWhole_whole _) oAmax (Memref.isWhole_whole _) oHist (Memref.isWhole_whole _) oCodes (Memref.isWhole_whole _) oScale (Memref.isWhole_whole _) bParts (Memref.isWhole_whole _) bX (Memref.isWhole_whole _) bRes (Memref.isWhole_whole _) bCodes (Memref.isWhole_whole _) bScales (Memref.isWhole_whole _) bBias (Memref.isWhole_whole _) bGain (Memref.isWhole_whole _) bHist (Memref.isWhole_whole _) bLhs (Memref.isWhole_whole _) bAcc (Memref.isWhole_whole _) bAmax (Memref.isWhole_whole _) bNewHist (Memref.isWhole_whole _) bScale (Memref.isWhole_whole _)
      cc0_scratch13 cc0_scratch14 cc0_scratch15 cc0_scratch16 cc0_scratch17 v165 v167 c255 k ⟨⟩)
      (fun _ => (iprop(pHome I c (gi k) ∗ xHome I c (gi k) ∗ refilled I c k
        ∗ keepB I c ((gi k).val + 1) ∗ outB I c (2 * (gi k).val + 1 + 1) ∗ (∃ W, owes (c : Thread nD τ) 0 W)) : sProp 𝕄)) := by
  have hk8 : (gi k).val = k.val := rfl
  unfold pFl xFl keepB todo resP codesP
  sl_unfold [k0_t1_body]
  iintro ⟨⟨%fp, %hfp, Hpf⟩, ⟨%fx, %hfx, Hxf⟩, H4, ⟨Hl, Hb, Hg, Ha⟩, HB, ⟨⟨%fr, Hr⟩, ⟨%fc, Hc⟩, ⟨%fo, Hro⟩, ⟨%fq, Hco⟩⟩, %W, Ho⟩
  sl_exec
  -- the rows' words
  have hinv : trip.sl.r_19 I c k fp fx = invS I (gi k) := inv_word I (gi k) (readL I (gi k) _ (off6_eq k) _)
    (readP I (gi k) 0 fp hfp _ (off7_eq k) _) (readB 0 I.B _ rfl _) (readX I (gi k) 0 fx hfx _ (off8_eq k) _)
     (readP I (gi k) 1 fp hfp _ (off10_eq k) _) (readB 1 I.B _ rfl _) (readX I (gi k) 1 fx hfx _ (off11_eq k) _)
     (readP I (gi k) 2 fp hfp _ (off13_eq k) _) (readB 2 I.B _ rfl _) (readX I (gi k) 2 fx hfx _ (off14_eq k) _)
     (readP I (gi k) 3 fp hfp _ (off16_eq k) _) (readB 3 I.B _ rfl _) (readX I (gi k) 3 fx hfx _ (off17_eq k) _)
     (readP I (gi k) 4 fp hfp _ (off19_eq k) _) (readB 4 I.B _ rfl _) (readX I (gi k) 4 fx hfx _ (off20_eq k) _)
     (readP I (gi k) 5 fp hfp _ (off22_eq k) _) (readB 5 I.B _ rfl _) (readX I (gi k) 5 fx hfx _ (off23_eq k) _)
     (readP I (gi k) 6 fp hfp _ (off25_eq k) _) (readB 6 I.B _ rfl _) (readX I (gi k) 6 fx hfx _ (off26_eq k) _)

  have hback : ∀ (i : Fin 7) (o : Fin 3 → ℕ) (ho : o = rslabOff (gi k) (1024 * i.val)) (hb : ∀ a, o a + S1x32x1024.size a ≤ S8x32x7168.size a),
      bRes.view.readCov (trip.sl.Hr_7 I c k fp fx) (Rect.unit (s := S8x32x7168) o S1x32x1024.size hb).toLoadRect = resS I (gi k) i := fun i o ho hb =>
    back I (gi k) i (off9_eq k) (off12_eq k) (off15_eq k) (off18_eq k) (off21_eq k) (off24_eq k) (off27_eq k)
    (res_word I (gi k) (readL I (gi k) _ (off6_eq k) _) (readP I (gi k) 0 fp hfp _ (off7_eq k) _) (readB 0 I.B _ rfl _) (readX I (gi k) 0 fx hfx _ (off8_eq k) _))
    (res_word I (gi k) (readL I (gi k) _ (off6_eq k) _) (readP I (gi k) 1 fp hfp _ (off10_eq k) _) (readB 1 I.B _ rfl _) (readX I (gi k) 1 fx hfx _ (off11_eq k) _))
    (res_word I (gi k) (readL I (gi k) _ (off6_eq k) _) (readP I (gi k) 2 fp hfp _ (off13_eq k) _) (readB 2 I.B _ rfl _) (readX I (gi k) 2 fx hfx _ (off14_eq k) _))
    (res_word I (gi k) (readL I (gi k) _ (off6_eq k) _) (readP I (gi k) 3 fp hfp _ (off16_eq k) _) (readB 3 I.B _ rfl _) (readX I (gi k) 3 fx hfx _ (off17_eq k) _))
    (res_word I (gi k) (readL I (gi k) _ (off6_eq k) _) (readP I (gi k) 4 fp hfp _ (off19_eq k) _) (readB 4 I.B _ rfl _) (readX I (gi k) 4 fx hfx _ (off20_eq k) _))
    (res_word I (gi k) (readL I (gi k) _ (off6_eq k) _) (readP I (gi k) 5 fp hfp _ (off22_eq k) _) (readB 5 I.B _ rfl _) (readX I (gi k) 5 fx hfx _ (off23_eq k) _))
    (res_word I (gi k) (readL I (gi k) _ (off6_eq k) _) (readP I (gi k) 6 fp hfp _ (off25_eq k) _) (readB 6 I.B _ rfl _) (readX I (gi k) 6 fx hfx _ (off26_eq k) _)) o ho hb
  irevert Hr
  refine go_step (res_go I c (gi k) fr (off9_eq k) (off12_eq k) (off15_eq k) (off18_eq k) (off21_eq k) (off24_eq k) (off27_eq k)
    (res_word I (gi k) (readL I (gi k) _ (off6_eq k) _) (readP I (gi k) 0 fp hfp _ (off7_eq k) _) (readB 0 I.B _ rfl _) (readX I (gi k) 0 fx hfx _ (off8_eq k) _))
    (res_word I (gi k) (readL I (gi k) _ (off6_eq k) _) (readP I (gi k) 1 fp hfp _ (off10_eq k) _) (readB 1 I.B _ rfl _) (readX I (gi k) 1 fx hfx _ (off11_eq k) _))
    (res_word I (gi k) (readL I (gi k) _ (off6_eq k) _) (readP I (gi k) 2 fp hfp _ (off13_eq k) _) (readB 2 I.B _ rfl _) (readX I (gi k) 2 fx hfx _ (off14_eq k) _))
    (res_word I (gi k) (readL I (gi k) _ (off6_eq k) _) (readP I (gi k) 3 fp hfp _ (off16_eq k) _) (readB 3 I.B _ rfl _) (readX I (gi k) 3 fx hfx _ (off17_eq k) _))
    (res_word I (gi k) (readL I (gi k) _ (off6_eq k) _) (readP I (gi k) 4 fp hfp _ (off19_eq k) _) (readB 4 I.B _ rfl _) (readX I (gi k) 4 fx hfx _ (off20_eq k) _))
    (res_word I (gi k) (readL I (gi k) _ (off6_eq k) _) (readP I (gi k) 5 fp hfp _ (off22_eq k) _) (readB 5 I.B _ rfl _) (readX I (gi k) 5 fx hfx _ (off23_eq k) _))
    (res_word I (gi k) (readL I (gi k) _ (off6_eq k) _) (readP I (gi k) 6 fp hfp _ (off25_eq k) _) (readB 6 I.B _ rfl _) (readX I (gi k) 6 fx hfx _ (off26_eq k) _))) ?_
  iintro %fr' %hrv Hr
  irevert Hc
  refine go_step (codes_go I c (gi k) fc (off9_eq k) (off12_eq k) (off15_eq k) (off18_eq k) (off21_eq k) (off24_eq k) (off27_eq k)
    ((pay37_eq _ _ _ _ _ _).trans (code_word I (gi k) hsc hinv (hback 0 _ (off9_eq k) _) (readG 0 I.G _ rfl _)))
    (code_word I (gi k) hsc hinv (hback 1 _ (off12_eq k) _) (readG 1 I.G _ rfl _))
    (code_word I (gi k) hsc hinv (hback 2 _ (off15_eq k) _) (readG 2 I.G _ rfl _))
    ((pay49_eq _ _ _ _).trans (code_word I (gi k) hsc hinv (hback 3 _ (off18_eq k) _) (readG 3 I.G _ rfl _)))
    (code_word I (gi k) hsc hinv (hback 4 _ (off21_eq k) _) (readG 4 I.G _ rfl _))
    (code_word I (gi k) hsc hinv (hback 5 _ (off24_eq k) _) (readG 5 I.G _ rfl _))
    (code_word I (gi k) hsc hinv (hback 6 _ (off27_eq k) _) (readG 6 I.G _ rfl _))) ?_
  iintro %fc' %hcv Hc
  irevert Ha
  refine go_step (acc_go I c _ (amax_word I (gi k) hinv (acc_load _ _)
    (hback 0 _ (off9_eq k) _) (readG 0 I.G _ rfl _)
    (hback 1 _ (off12_eq k) _) (readG 1 I.G _ rfl _)
    (hback 2 _ (off15_eq k) _) (readG 2 I.G _ rfl _)
    (hback 3 _ (off18_eq k) _) (readG 3 I.G _ rfl _)
    (hback 4 _ (off21_eq k) _) (readG 4 I.G _ rfl _)
    (hback 5 _ (off24_eq k) _) (readG 5 I.G _ rfl _)
    (hback 6 _ (off27_eq k) _) (readG 6 I.G _ rfl _))) ?_
  iintro Ha
  iapply (issue_res I c (gi k) fr' fo hrv) $$ [Hr Hro HB]
  · isplitl [Hr]; · iexact Hr
    isplitl [Hro]; · iexact Hro
    iexact HB
  iintro HB
  sl_exec
  iapply (issue_codes I c (gi k) fc' fq hcv) $$ [Hc Hco HB]
  · isplitl [Hc]; · iexact Hc
    isplitl [Hco]; · iexact Hco
    iexact HB
  iintro HB
  by_cases h4 : k.val < 4
  · have hc1 := cond1_pos k h4
    ihave H4' := (Entails.of_eq (refill_pos I c k h4)) $$ H4
    icases H4' with ⟨Hp4, Hx4⟩
    sl_exec
    sl_step
    isplitl [Hpf_src]; · iexact Hpf_src
    isplitl [Hxf_src]; · iexact Hxf_src
    isplitl [Hpf Hxf]
    · iapply (Entails.of_eq (refilled_pos I c k h4).symm)
      isplitl [Hpf]
      · iapply (pFl_intro I c (sl (gi k)) (gi4 k h4) fp)
        iexact Hpf
      · iapply (xFl_intro I c (sl (gi k)) (gi4 k h4) fx)
        iexact Hxf
    isplitl [Hl Hb Hg Ha]
    · isplitl [Hl]; · iexact Hl
      isplitl [Hb]; · iexact Hb
      isplitl [Hg]; · iexact Hg
      iexact Ha
    isplitl [HB]; · iexact HB
    iexists _; iexact Ho
  · have hc1 := cond1_neg k h4
    ihave H4' := (Entails.of_eq (refill_neg I c k h4)) $$ H4
    icases H4' with -
    sl_exec
    sl_step
    isplitl [Hpf_src]; · iexact Hpf_src
    isplitl [Hxf_src]; · iexact Hxf_src
    isplitl [Hpf Hxf Hpf_dst Hxf_dst]
    · iapply (Entails.of_eq (refilled_neg I c k h4).symm)
      unfold pFree xFree
      isplitl [Hpf Hpf_dst]
      · isplitl [Hpf_dst]; · iexists _; iexact Hpf_dst
        iexact Hpf
      · isplitl [Hxf_dst]; · iexists _; iexact Hxf_dst
        iexact Hxf
    isplitl [Hl Hb Hg Ha]
    · isplitl [Hl]; · iexact Hl
      isplitl [Hb]; · iexact Hb
      isplitl [Hg]; · iexact Hg
      iexact Ha
    isplitl [HB]; · iexact HB
    iexists _; iexact Ho

end Cert.Proof.Run

end
-- ==== Proof.Loop.lean ====
/-
  The loop over the eight groups: what holds before trip `n`, group by group, and that one trip keeps it.
-/
module

public import proofs.«01_k».proof.Proof.Trip

@[expose] public section

set_option maxRecDepth 16384
set_option backward.proofsInPublic true

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- Group `g` before trip `n`: done, in flight into its slot, or still at home. -/
def St (I : Inp F) (c : Dev nD) (n : ℕ) (g : Fin 8) : sProp 𝕄 :=
  if g.val < n then iprop((pHome I c g ∗ xHome I c g) ∗ if 4 ≤ g.val then iprop(pFree (F := F) c (sl g) ∗ xFree (F := F) c (sl g)) else iprop(emp))
  else iprop((if g.val < n + 4 then iprop(pFl I c (sl g) g ∗ xFl I c (sl g) g) else iprop(pHome I c g ∗ xHome I c g)) ∗ todo c g)

theorem St_lo (I : Inp F) (c : Dev nD) {n : ℕ} {g : Fin 8} (h : g.val < n) (h4 : g.val < 4) :
    St I c n g = iprop((pHome I c g ∗ xHome I c g) ∗ emp) := by rw [St, if_pos h, if_neg (by omega)]
theorem St_hi (I : Inp F) (c : Dev nD) {n : ℕ} {g : Fin 8} (h : g.val < n) (h4 : 4 ≤ g.val) :
    St I c n g = iprop((pHome I c g ∗ xHome I c g) ∗ pFree (F := F) c (sl g) ∗ xFree (F := F) c (sl g)) := by rw [St, if_pos h, if_pos h4]
theorem St_fly (I : Inp F) (c : Dev nD) {n : ℕ} {g : Fin 8} (h : n ≤ g.val) (h4 : g.val < n + 4) :
    St I c n g = iprop((pFl I c (sl g) g ∗ xFl I c (sl g) g) ∗ todo c g) := by rw [St, if_neg (by omega), if_pos h4]
theorem St_home (I : Inp F) (c : Dev nD) {n : ℕ} {g : Fin 8} (h4 : n + 4 ≤ g.val) :
    St I c n g = iprop((pHome I c g ∗ xHome I c g) ∗ todo c g) := by rw [St, if_neg (by omega), if_neg (by omega)]
/-- A trip moves its own group and, of the first four, the group four on; the others stay. -/
theorem St_keep (I : Inp F) (c : Dev nD) {n : ℕ} {g : Fin 8} (h : g.val ≠ n) (h4 : g.val ≠ n + 4) : St I c (n + 1) g = St I c n g := by
  have e1 : (g.val < n + 1) = (g.val < n) := by apply propext; omega
  have e2 : (g.val < n + 1 + 4) = (g.val < n + 4) := by apply propext; omega
  unfold St; simp only [e1, e2]

/-- Two of a family taken out, and put back changed. -/
theorem bigSep_update2 {Φ Ψ : Fin 8 → sProp 𝕄} (i j : Fin 8) (hij : i ≠ j) (h : ∀ g, g ≠ i → g ≠ j → Ψ g = Φ g) :
    bigSep Finset.univ Φ ⊢ iprop((Φ i ∗ Φ j) ∗ ((Ψ i ∗ Ψ j) -∗ bigSep Finset.univ Ψ)) := by
  rw [bigSep_erase (Finset.mem_univ i) (Φ := Φ), bigSep_erase (Finset.mem_erase.mpr ⟨hij.symm, Finset.mem_univ j⟩) (Φ := Φ),
    bigSep_erase (Finset.mem_univ i) (Φ := Ψ), bigSep_erase (Finset.mem_erase.mpr ⟨hij.symm, Finset.mem_univ j⟩) (Φ := Ψ),
    bigSep_congr (s := (Finset.univ.erase i).erase j) (Φ := Ψ) (Ψ := Φ) (fun g hg => h g (Finset.ne_of_mem_erase (Finset.mem_of_mem_erase hg)) (Finset.ne_of_mem_erase hg))]
  show iprop(Φ i ∗ Φ j ∗ bigSep ((Finset.univ.erase i).erase j) Φ)
    ⊢ iprop((Φ i ∗ Φ j) ∗ ((Ψ i ∗ Ψ j) -∗ (Ψ i ∗ Ψ j ∗ bigSep ((Finset.univ.erase i).erase j) Φ)))
  iintro ⟨H1, H2, H3⟩
  isplitl [H1 H2]
  · isplitl [H1] <;> iassumption
  iintro ⟨H1, H2⟩
  isplitl [H1]; · iexact H1
  isplitl [H2] <;> iassumption

/-- What trip `k` takes from the groups, and what it gives back. -/
theorem St_trip (I : Inp F) (c : Dev nD) (k : Fin k0_t1_loop.trips) :
    bigSep Finset.univ (St I c k.val) ⊢ iprop(((pFl I c (sl (gi k)) (gi k) ∗ xFl I c (sl (gi k)) (gi k)) ∗ refill I c k ∗ todo c (gi k))
      ∗ ((pHome I c (gi k) ∗ xHome I c (gi k) ∗ refilled I c k) -∗ bigSep Finset.univ (St I c (k.val + 1)))) := by
  have hk8 : k.val < 8 := (gi k).isLt
  have hgk : (gi k).val = k.val := rfl
  by_cases h : k.val < 4
  · have hg4 : (gi4 k h).val = k.val + 4 := rfl
    have hs : sl (gi4 k h) = sl (gi k) := Fin.ext (by show (k.val + 4) % 4 = k.val % 4; omega)
    have e := bigSep_update2 (Φ := St I c k.val) (Ψ := St I c (k.val + 1)) (gi k) (gi4 k h) (fun e => by have := congrArg Fin.val e; omega)
      (fun g h1 h2 => St_keep I c (fun e => h1 (Fin.ext e)) (fun e => h2 (Fin.ext e)))
    rw [St_fly I c (g := gi k) (by omega) (by omega), St_home I c (g := gi4 k h) (by omega), St_lo I c (g := gi k) (n := k.val + 1) (by omega) (by omega),
      St_fly I c (g := gi4 k h) (n := k.val + 1) (by omega) (by omega), hs] at e
    rw [refill_pos I c k h, refilled_pos I c k h]
    refine BIBase.Entails.trans e ?_
    iintro ⟨⟨⟨Hf, Ht⟩, Hh, Ht4⟩, Hw⟩
    isplitl [Hf Ht Hh]
    · isplitl [Hf]; · iexact Hf
      isplitl [Hh] <;> iassumption
    iintro ⟨H1, H2, H3⟩
    iapply Hw
    isplitl [H1 H2]
    · isplitl [H1 H2]
      · isplitl [H1] <;> iassumption
      · iempintro
    · isplitl [H3] <;> iassumption
  · have e := bigSep_univ_update (Φ := St I c k.val) (Ψ := St I c (k.val + 1)) (gi k)
      (fun g h1 => St_keep I c (fun e => h1 (Fin.ext e)) (fun e => by have := g.isLt; omega))
    rw [St_fly I c (g := gi k) (by omega) (by omega), St_hi I c (g := gi k) (n := k.val + 1) (by omega) (by omega)] at e
    rw [refill_neg I c k h, refilled_neg I c k h]
    refine BIBase.Entails.trans e ?_
    iintro ⟨⟨Hf, Ht⟩, Hw⟩
    isplitl [Hf Ht]
    · isplitl [Hf]; · iexact Hf
      isplitr; · iempintro
      iexact Ht
    iintro ⟨H1, H2, H3⟩
    iapply Hw
    isplitl [H1 H2]
    · isplitl [H1] <;> iassumption
    · iexact H3

/-- What holds before trip `n`. -/
def inv (I : Inp F) (c : Dev nD) (n : ℕ) (_ : PUnit) : sProp 𝕄 :=
  iprop(bigSep Finset.univ (St I c n) ∗ keepB I c n ∗ outB I c (2 * n) ∗ ∃ W, owes (c : Thread nD τ) 0 W)

/-- One trip keeps it. -/
theorem inv_step (I : Inp F) (c : Dev nD) (k : Fin k0_t1_loop.trips) (v165 : IVec S1x1 32) (v167 : IVec S1x1 1) (c255 : BitVec 32)
   (hsc : k0_pay69 v165 v167 c255 = I.sc) (u : PUnit) :
   inv I c k.val u ⊢ wp frame (wpE defs₀ 𝒱₀ (c : Thread nD τ) none) Set.univ
     (k0_t1_body (F:=F) aParts (Memref.isWhole_whole _) aScales (Memref.isWhole_whole _) aBias (Memref.isWhole_whole _) aX (Memref.isWhole_whole _) aGain (Memref.isWhole_whole _) aHist (Memref.isWhole_whole _) oRes (Memref.isWhole_whole _) oAmax (Memref.isWhole_whole _) oHist (Memref.isWhole_whole _) oCodes (Memref.isWhole_whole _) oScale (Memref.isWhole_whole _) bParts (Memref.isWhole_whole _) bX (Memref.isWhole_whole _) bRes (Memref.isWhole_whole _) bCodes (Memref.isWhole_whole _) bScales (Memref.isWhole_whole _) bBias (Memref.isWhole_whole _) bGain (Memref.isWhole_whole _) bHist (Memref.isWhole_whole _) bLhs (Memref.isWhole_whole _) bAcc (Memref.isWhole_whole _) bAmax (Memref.isWhole_whole _) bNewHist (Memref.isWhole_whole _) bScale (Memref.isWhole_whole _)
      cc0_scratch13 cc0_scratch14 cc0_scratch15 cc0_scratch16 cc0_scratch17 v165 v167 c255 k u) (fun r => inv I c (k.val + 1) r) := by
  unfold inv
  iintro ⟨HS, HK, HB, HO⟩
  ihave H := (St_trip I c k) $$ HS
  icases H with ⟨⟨⟨H1, H2⟩, H3, H4⟩, Hw⟩
  iapply (wp_wand_r frame (wpE defs₀ 𝒱₀ (c : Thread nD τ) none) Set.univ)
  isplitl [H1 H2 H3 H4 HK HB HO]
  · iapply (trip I c k v165 v167 c255 hsc)
    isplitl [H1]; · iexact H1
    isplitl [H2]; · iexact H2
    isplitl [H3]; · iexact H3
    isplitl [HK]; · iexact HK
    isplitl [HB]; · iexact HB
    isplitl [H4]; · iexact H4
    iexact HO
  iintro %r ⟨H1, H2, H3, HK, HB, HO⟩
  isplitl [H1 H2 H3 Hw]
  · iapply Hw
    isplitl [H1]; · iexact H1
    isplitl [H2]; · iexact H2
    iexact H3
  isplitl [HK]; · iexact HK
  isplitl [HB]; · iexact HB
  iexact HO

end Cert.Proof.Run

end
-- ==== Proof.Split.lean ====
/-
  The buffers held whole and held piece by piece: the inputs and outputs by groups, the rings by slots, the kept results by rows.
-/
module

public import proofs.«01_k».proof.Proof.Loop

@[expose] public section

set_option maxRecDepth 16384
set_option backward.proofsInPublic true

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- Sets that are the fibres of a map are disjoint and cover. -/
theorem fib_disjoint {A B : Type} (I : B → Finset A) (φ : A → B) (h : ∀ b y, y ∈ I b ↔ φ y = b) : ∀ b b', b ≠ b' → Disjoint (I b) (I b') := by
  intro b b' hne
  rw [Finset.disjoint_left]; intro y hy hy'
  exact hne (((h b y).mp hy).symm.trans ((h b' y).mp hy'))
theorem fib_cover {A B : Type} [Fintype A] [Fintype B] [DecidableEq A] (I : B → Finset A) (φ : A → B) (h : ∀ b y, y ∈ I b ↔ φ y = b) :
    Finset.univ.biUnion I = Finset.univ := by
  ext y; simp only [Finset.mem_biUnion, Finset.mem_univ, true_and, iff_true]; exact ⟨φ y, (h _ y).mpr rfl⟩

abbrev grpSet (g : Fin 8) : Finset S2x128x7168.Idx := (Rect.unit (s := S2x128x7168) (grpOff g) S1x32x7168.size (grpOff_inb g)).set
abbrev pgrpSet (g : Fin 8) : Finset S16x2x128x7168.Idx := (Rect.unit (s := S16x2x128x7168) (pgrpOff g) S16x1x32x7168.size (pgrpOff_inb g)).set
abbrev slotSet (s : Fin 4) : Finset S4x32x7168.Idx := (Rect.unit (s := S4x32x7168) (slotOff s) S1x32x7168.size (slotOff_inb s)).set
abbrev pslotSet (s : Fin 4) : Finset S4x16x32x7168.Idx := (Rect.unit (s := S4x16x32x7168) (pslotOff s) S1x16x32x7168.size (pslotOff_inb s)).set
abbrev rowSet (g : Fin 8) : Finset S8x32x7168.Idx := (rowRect g).set

def grpOf (y : S2x128x7168.Idx) : Fin 8 := ⟨4 * (y 0).val + (y 1).val / 32, by have h0 : (y 0).val < 2 := (y 0).isLt; have h1 : (y 1).val < 128 := (y 1).isLt; omega⟩
def pgrpOf (y : S16x2x128x7168.Idx) : Fin 8 := ⟨4 * (y 1).val + (y 2).val / 32, by have h0 : (y 1).val < 2 := (y 1).isLt; have h1 : (y 2).val < 128 := (y 2).isLt; omega⟩

theorem mem_grp (g : Fin 8) (y : S2x128x7168.Idx) : y ∈ grpSet g ↔ grpOf y = g := by
  rw [Rect.mem_set_unit, Fin.ext_iff]
  show _ ↔ 4 * (y 0).val + (y 1).val / 32 = g.val
  have h0 : (y 0).val < 2 := (y 0).isLt
  have h1 : (y 1).val < 128 := (y 1).isLt
  have h2 : (y 2).val < 7168 := (y 2).isLt
  have hg := g.isLt
  constructor
  · intro H
    have a0 : g.val / 4 ≤ (y 0).val ∧ (y 0).val < g.val / 4 + 1 := H 0
    have a1 : 32 * (g.val % 4) ≤ (y 1).val ∧ (y 1).val < 32 * (g.val % 4) + 32 := H 1
    omega
  · intro H a; fin_cases a
    · show g.val / 4 ≤ (y 0).val ∧ (y 0).val < g.val / 4 + 1; omega
    · show 32 * (g.val % 4) ≤ (y 1).val ∧ (y 1).val < 32 * (g.val % 4) + 32; omega
    · show 0 ≤ (y 2).val ∧ (y 2).val < 0 + 7168; omega
theorem mem_pgrp (g : Fin 8) (y : S16x2x128x7168.Idx) : y ∈ pgrpSet g ↔ pgrpOf y = g := by
  rw [Rect.mem_set_unit, Fin.ext_iff]
  show _ ↔ 4 * (y 1).val + (y 2).val / 32 = g.val
  have h0 : (y 0).val < 16 := (y 0).isLt
  have h1 : (y 1).val < 2 := (y 1).isLt
  have h2 : (y 2).val < 128 := (y 2).isLt
  have h3 : (y 3).val < 7168 := (y 3).isLt
  have hg := g.isLt
  constructor
  · intro H
    have a0 : g.val / 4 ≤ (y 1).val ∧ (y 1).val < g.val / 4 + 1 := H 1
    have a1 : 32 * (g.val % 4) ≤ (y 2).val ∧ (y 2).val < 32 * (g.val % 4) + 32 := H 2
    omega
  · intro H a; fin_cases a
    · show 0 ≤ (y 0).val ∧ (y 0).val < 0 + 16; omega
    · show g.val / 4 ≤ (y 1).val ∧ (y 1).val < g.val / 4 + 1; omega
    · show 32 * (g.val % 4) ≤ (y 2).val ∧ (y 2).val < 32 * (g.val % 4) + 32; omega
    · show 0 ≤ (y 3).val ∧ (y 3).val < 0 + 7168; omega
def slotOf (y : S4x32x7168.Idx) : Fin 4 := y 0
def pslotOf (y : S4x16x32x7168.Idx) : Fin 4 := y 0
def rowOf (y : S8x32x7168.Idx) : Fin 8 := y 0
theorem mem_slot (s : Fin 4) (y : S4x32x7168.Idx) : y ∈ slotSet s ↔ slotOf y = s := by
  rw [Rect.mem_set_unit, Fin.ext_iff]
  show _ ↔ (y 0).val = s.val
  have h1 : (y 1).val < 32 := (y 1).isLt
  have h2 : (y 2).val < 7168 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 32; omega
    · show 0 ≤ (y 2).val ∧ (y 2).val < 0 + 7168; omega
theorem mem_pslot (s : Fin 4) (y : S4x16x32x7168.Idx) : y ∈ pslotSet s ↔ pslotOf y = s := by
  rw [Rect.mem_set_unit, Fin.ext_iff]
  show _ ↔ (y 0).val = s.val
  have h1 : (y 1).val < 16 := (y 1).isLt
  have h2 : (y 2).val < 32 := (y 2).isLt
  have h3 : (y 3).val < 7168 := (y 3).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 16; omega
    · show 0 ≤ (y 2).val ∧ (y 2).val < 0 + 32; omega
    · show 0 ≤ (y 3).val ∧ (y 3).val < 0 + 7168; omega
theorem mem_row (g : Fin 8) (y : S8x32x7168.Idx) : y ∈ rowSet g ↔ rowOf y = g := by
  rw [Rect.mem_set_unit, Fin.ext_iff]
  show _ ↔ (y 0).val = g.val
  have h1 : (y 1).val < 32 := (y 1).isLt
  have h2 : (y 2).val < 7168 := (y 2).isLt
  constructor
  · intro H; have a0 : g.val ≤ (y 0).val ∧ (y 0).val < g.val + 1 := H 0; omega
  · intro H a; fin_cases a
    · show g.val ≤ (y 0).val ∧ (y 0).val < g.val + 1; omega
    · show 0 ≤ (y 1).val ∧ (y 1).val < 0 + 32; omega
    · show 0 ≤ (y 2).val ∧ (y 2).val < 0 + 7168; omega

theorem set_xGrp (g : Fin 8) : (xGrp g).view.set = grpSet g := (View.set_reshape _ _).trans (View.set_slice_whole _ _)
theorem set_pGrp (g : Fin 8) : (pGrp g).view.set = pgrpSet g := (View.set_reshape _ _).trans (View.set_slice_whole _ _)
theorem set_resOut (g : Fin 8) : (resOut g).view.set = grpSet g := (View.set_reshape _ _).trans (View.set_slice_whole _ _)
theorem set_codesOut (g : Fin 8) : (codesOut g).view.set = grpSet g := (View.set_reshape _ _).trans (View.set_slice_whole _ _)
theorem set_xSlot (s : Fin 4) : (xSlot s).view.set = slotSet s := (View.set_reshape _ _).trans (View.set_slice_whole _ _)
theorem set_pSlot (s : Fin 4) : (pSlot s).view.set = pslotSet s := (View.set_reshape _ _).trans (View.set_slice_whole _ _)
theorem setOn_row (g : Fin 8) : bRes.view.setOn (rowRect g).set = rowSet g := Finset.map_refl
theorem setOn_row' (g : Fin 8) : bCodes.view.setOn (rowRect g).set = rowSet g := Finset.map_refl

section Whole
variable (c : Dev nD)

/-- A buffer whole, at contents `f`. -/
abbrev own {sp : Space} {s : Shape} {e : EltTy} (M : Memref sig .tc sp s e) (f : Buf (Elt F) (M.view.loc (c : Thread nD τ))) : sProp 𝕄 :=
  (M.view.loc (c : Thread nD τ) ↦{fullShare} f)

theorem x_groups (I : Inp F) : own c aX I.XX = bigSep Finset.univ (xHome I c) := by
  refine (Ring.pointsTo_blocks (ℓ := aX.view.loc (c : Thread nD τ)) (q := fullShare) grpSet (fib_disjoint _ grpOf mem_grp) (fib_cover _ grpOf mem_grp) _).trans
    (bigSep_congr fun g _ => ?_)
  rw [← set_xGrp]; rfl
theorem p_groups (I : Inp F) : own c aParts I.XP = bigSep Finset.univ (pHome I c) := by
  refine (Ring.pointsTo_blocks (ℓ := aParts.view.loc (c : Thread nD τ)) (q := fullShare) pgrpSet (fib_disjoint _ pgrpOf mem_pgrp) (fib_cover _ pgrpOf mem_pgrp) _).trans
    (bigSep_congr fun g _ => ?_)
  rw [← set_pGrp]; rfl
theorem res_groups (f : Buf (Elt F) (oRes.view.loc (c : Thread nD τ))) : own c oRes f = bigSep Finset.univ fun g => resO c g f := by
  refine (Ring.pointsTo_blocks (ℓ := oRes.view.loc (c : Thread nD τ)) (q := fullShare) grpSet (fib_disjoint _ grpOf mem_grp) (fib_cover _ grpOf mem_grp) _).trans
    (bigSep_congr fun g _ => ?_)
  rw [← set_resOut]; rfl
theorem codes_groups (f : Buf (Elt F) (oCodes.view.loc (c : Thread nD τ))) : own c oCodes f = bigSep Finset.univ fun g => codesO c g f := by
  refine (Ring.pointsTo_blocks (ℓ := oCodes.view.loc (c : Thread nD τ)) (q := fullShare) grpSet (fib_disjoint _ grpOf mem_grp) (fib_cover _ grpOf mem_grp) _).trans
    (bigSep_congr fun g _ => ?_)
  rw [← set_codesOut]; rfl
theorem x_slots (f : Buf (Elt F) (bX.view.loc (c : Thread nD τ))) :
    own c bX f = bigSep Finset.univ fun s => ((xSlot s).view.loc (c : Thread nD τ) ↦[(xSlot s).view.set]{fullShare} f) := by
  refine (Ring.pointsTo_blocks (ℓ := bX.view.loc (c : Thread nD τ)) (q := fullShare) slotSet (fib_disjoint _ slotOf mem_slot) (fib_cover _ slotOf mem_slot) _).trans
    (bigSep_congr fun g _ => ?_)
  rw [← set_xSlot]; rfl
theorem p_slots (f : Buf (Elt F) (bParts.view.loc (c : Thread nD τ))) :
    own c bParts f = bigSep Finset.univ fun s => ((pSlot s).view.loc (c : Thread nD τ) ↦[(pSlot s).view.set]{fullShare} f) := by
  refine (Ring.pointsTo_blocks (ℓ := bParts.view.loc (c : Thread nD τ)) (q := fullShare) pslotSet (fib_disjoint _ pslotOf mem_pslot) (fib_cover _ pslotOf mem_pslot) _).trans
    (bigSep_congr fun g _ => ?_)
  rw [← set_pSlot]; rfl
theorem res_rows (f : Buf (Elt F) (bRes.view.loc (c : Thread nD τ))) : own c bRes f = bigSep Finset.univ fun g => resP c g f := by
  refine (Ring.pointsTo_blocks (ℓ := bRes.view.loc (c : Thread nD τ)) (q := fullShare) rowSet (fib_disjoint _ rowOf mem_row) (fib_cover _ rowOf mem_row) _).trans
    (bigSep_congr fun g _ => ?_)
  rw [← setOn_row]; rfl
theorem codes_rows (f : Buf (Elt F) (bCodes.view.loc (c : Thread nD τ))) : own c bCodes f = bigSep Finset.univ fun g => codesP c g f := by
  refine (Ring.pointsTo_blocks (ℓ := bCodes.view.loc (c : Thread nD τ)) (q := fullShare) rowSet (fib_disjoint _ rowOf mem_row) (fib_cover _ rowOf mem_row) _).trans
    (bigSep_congr fun g _ => ?_)
  rw [← setOn_row']; rfl

/-- Slots and rows held at some contents each join to the buffer held. -/
theorem x_join (f₀ : Buf (Elt F) (bX.view.loc (c : Thread nD τ))) :
    (bigSep Finset.univ fun s => iprop(∃ f, ((xSlot s).view.loc (c : Thread nD τ) ↦[(xSlot s).view.set]{fullShare} f)) : sProp 𝕄) ⊢ iprop(∃ f, own c bX f) := by
  refine BIBase.Entails.trans (Entails.of_eq (bigSep_congr fun g _ => ?_)) (Ring.pointsTo_blocks_join_exists (ℓ := bX.view.loc (c : Thread nD τ)) (q := fullShare)
    slotSet (fib_disjoint _ slotOf mem_slot) (fib_cover _ slotOf mem_slot) f₀)
  rw [← set_xSlot]; rfl
theorem p_join (f₀ : Buf (Elt F) (bParts.view.loc (c : Thread nD τ))) :
    (bigSep Finset.univ fun s => iprop(∃ f, ((pSlot s).view.loc (c : Thread nD τ) ↦[(pSlot s).view.set]{fullShare} f)) : sProp 𝕄) ⊢ iprop(∃ f, own c bParts f) := by
  refine BIBase.Entails.trans (Entails.of_eq (bigSep_congr fun g _ => ?_)) (Ring.pointsTo_blocks_join_exists (ℓ := bParts.view.loc (c : Thread nD τ)) (q := fullShare)
    pslotSet (fib_disjoint _ pslotOf mem_pslot) (fib_cover _ pslotOf mem_pslot) f₀)
  rw [← set_pSlot]; rfl
theorem res_join (f₀ : Buf (Elt F) (bRes.view.loc (c : Thread nD τ))) :
    (bigSep Finset.univ fun g => iprop(∃ f, resP c g f) : sProp 𝕄) ⊢ iprop(∃ f, own c bRes f) := by
  refine BIBase.Entails.trans (Entails.of_eq (bigSep_congr fun g _ => ?_)) (Ring.pointsTo_blocks_join_exists (ℓ := bRes.view.loc (c : Thread nD τ)) (q := fullShare)
    rowSet (fib_disjoint _ rowOf mem_row) (fib_cover _ rowOf mem_row) f₀)
  rw [← setOn_row]; rfl
theorem codes_join (f₀ : Buf (Elt F) (bCodes.view.loc (c : Thread nD τ))) :
    (bigSep Finset.univ fun g => iprop(∃ f, codesP c g f) : sProp 𝕄) ⊢ iprop(∃ f, own c bCodes f) := by
  refine BIBase.Entails.trans (Entails.of_eq (bigSep_congr fun g _ => ?_)) (Ring.pointsTo_blocks_join_exists (ℓ := bCodes.view.loc (c : Thread nD τ)) (q := fullShare)
    rowSet (fib_disjoint _ rowOf mem_row) (fib_cover _ rowOf mem_row) f₀)
  rw [← setOn_row']; rfl

/-- Eight, and four, in a row. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]; rfl
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]; rfl

end Whole

end Cert.Proof.Run

end
-- ==== Proof.Body.lean ====
/-
  The kernel's body: the copies in, the loop over the groups, the copies out.
-/
module

public import proofs.«01_k».proof.Proof.Split

@[expose] public section

set_option maxRecDepth 16384
set_option backward.proofsInPublic true

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The cells of the four small copies in, and of the three small results. -/
abbrev smallSem (i : Fin 1 → ℕ) (h : ∀ a, i a + S1.size a ≤ S4.size a) : DmaSems sig S_ :=
  (cc0_scratch15.slice (Rect.unit (s := S4) i S1.size h)).squeeze S_ squeezes_S1_S_
abbrev scalarSem (i : Fin 1 → ℕ) (h : ∀ a, i a + S1.size a ≤ S3.size a) : DmaSems sig S_ :=
  (cc0_scratch16.slice (Rect.unit (s := S3) i S1.size h)).squeeze S_ squeezes_S1_S_
abbrev semZ (c : Dev nD) (s : DmaSems sig S_) : sProp 𝕄 := semVal ((c : Thread nD τ), SemLoc.dma s.sem) 0
abbrev someOf (c : Dev nD) {sp : Space} {s : Shape} {e : EltTy} (M : Memref sig .tc sp s e) : sProp 𝕄 := iprop(∃ f, own (F := F) c M f)

/-- The weights: the scales of batch 0 spread over the first 128 rows, of batch 1 over the rest. -/
def lhsL (S : Vec F S16x2x128 .f32) : Vec F S256x512 .bf16 :=
  bLhs.view.writes (Elt F) (bLhs.view.junk)
    [⟨Rect.unit (s := S256x512) ![128, 0] S128x512.size inb_S256x512_S128x512_128_0, k0_pay65 (k0_pay62 (F := F) k0_pay60 k0_pay61) k0_pay63 (bScales.view.readAt (Elt F) (Rect.unit (s := S16x2x128) ![0, 1, 0] S16x1x128.size inb_S16x2x128_S16x1x128_0_1_0).toLoadRect S)⟩,
     ⟨Rect.unit (s := S256x512) ![0, 0] S128x512.size inb_S256x512_S128x512_0_0, k0_pay64 (k0_pay62 (F := F) k0_pay60 k0_pay61) k0_pay63 (bScales.view.readAt (Elt F) (Rect.unit (s := S16x2x128) ![0, 0, 0] S16x1x128.size inb_S16x2x128_S16x1x128_0_0_0).toLoadRect S)⟩]

theorem todo_intro (c : Dev nD) (g : Fin 8) (f2 : Buf (Elt F) (bRes.view.loc (c : Thread nD τ))) (f3 : Buf (Elt F) (bCodes.view.loc (c : Thread nD τ)))
    (f6 : Buf (Elt F) (oRes.view.loc (c : Thread nD τ))) (f9 : Buf (Elt F) (oCodes.view.loc (c : Thread nD τ))) :
    (iprop(resP c g f2 ∗ codesP c g f3 ∗ resO c g f6 ∗ codesO c g f9) : sProp 𝕄) ⊢ todo c g := by
  unfold todo
  iintro ⟨H1, H2, H3, H4⟩
  isplitl [H1]; · iexists _; iexact H1
  isplitl [H2]; · iexists _; iexact H2
  isplitl [H3]; · iexists _; iexact H3
  iexists _; iexact H4

/-- The run's inputs, from the six arguments. -/
def mkI (XP : Vec F S16x2x128x7168 .fp8e4m3) (XX : Vec F S2x128x7168 .bf16) (S : Vec F S16x2x128 .f32) (B G : Vec F S1x7168 .f32) (H : Vec F S1x16 .f32) : Inp F :=
  { XP := XP, XX := XX, L := lhsL S, B := B, G := G, sc := k0_pay69 (k0_pay66 H) (k0_pay67 H) 255#32 }

/-- The three small results. -/
def amaxOut (I : Inp F) : Vec F S1x1 .f32 := k0_pay73 (k0_pay72 (amaxS I 8))
def histOut (I : Inp F) (H : Vec F S1x16 .f32) : Vec F S1x16 .f32 :=
  k0_pay74 (k0_pay72 (amaxS I 8)) (bHist.view.readAt (Elt F) (Rect.unit (s := S1x16) ![0, 1] S1x15.size inb_S1x16_S1x15_0_1).toLoadRect H)
def scaleOut (H : Vec F S1x16 .f32) : Vec F S1x1 .f32 := k0_pay70 (k0_pay66 H) (k0_pay67 H) 255#32

set_option maxHeartbeats 2000000 in
theorem run (c : Dev nD) (XP : Vec F S16x2x128x7168 .fp8e4m3) (XX : Vec F S2x128x7168 .bf16) (S : Vec F S16x2x128 .f32) (B G : Vec F S1x7168 .f32) (H : Vec F S1x16 .f32) :
  (iprop(own c aParts XP ∗ own c aScales S ∗ own c aBias B ∗ own c aX XX ∗ own c aGain G ∗ own c aHist H
     ∗ someOf (F := F) c oRes ∗ someOf (F := F) c oAmax ∗ someOf (F := F) c oHist ∗ someOf (F := F) c oCodes ∗ someOf (F := F) c oScale
     ∗ someOf (F := F) c bParts ∗ someOf (F := F) c bX ∗ someOf (F := F) c bRes ∗ someOf (F := F) c bCodes ∗ someOf (F := F) c bScales ∗ someOf (F := F) c bBias ∗ someOf (F := F) c bGain ∗ someOf (F := F) c bHist
     ∗ someOf (F := F) c bLhs ∗ someOf (F := F) c bAcc ∗ someOf (F := F) c bAmax ∗ someOf (F := F) c bNewHist ∗ someOf (F := F) c bScale
     ∗ (semZ (F := F) c (pSem 0) ∗ semZ (F := F) c (pSem 1) ∗ semZ (F := F) c (pSem 2) ∗ semZ (F := F) c (pSem 3))
     ∗ (semZ (F := F) c (xSem 0) ∗ semZ (F := F) c (xSem 1) ∗ semZ (F := F) c (xSem 2) ∗ semZ (F := F) c (xSem 3))
     ∗ (semZ (F := F) c (smallSem ![0] inb_S4_S1_0) ∗ semZ (F := F) c (smallSem ![1] inb_S4_S1_1) ∗ semZ (F := F) c (smallSem ![2] inb_S4_S1_2) ∗ semZ (F := F) c (smallSem ![3] inb_S4_S1_3))
     ∗ (semZ (F := F) c (scalarSem ![0] inb_S3_S1_0) ∗ semZ (F := F) c (scalarSem ![1] inb_S3_S1_1) ∗ semZ (F := F) c (scalarSem ![2] inb_S3_S1_2))
     ∗ semZ (F := F) c cc0_scratch17
     ∗ (∃ W, owes (c : Thread nD τ) 0 W)) : sProp 𝕄)
  ⊢ wp frame (wpE defs₀ 𝒱₀ (c : Thread nD τ) none) Set.univ
     (cc0_body (F:=F) aParts (Memref.isWhole_whole _) aScales (Memref.isWhole_whole _) aBias (Memref.isWhole_whole _) aX (Memref.isWhole_whole _) aGain (Memref.isWhole_whole _) aHist (Memref.isWhole_whole _) oRes (Memref.isWhole_whole _) oAmax (Memref.isWhole_whole _) oHist (Memref.isWhole_whole _) oCodes (Memref.isWhole_whole _) oScale (Memref.isWhole_whole _) bParts (Memref.isWhole_whole _) bX (Memref.isWhole_whole _) bRes (Memref.isWhole_whole _) bCodes (Memref.isWhole_whole _) bScales (Memref.isWhole_whole _) bBias (Memref.isWhole_whole _) bGain (Memref.isWhole_whole _) bHist (Memref.isWhole_whole _) bLhs (Memref.isWhole_whole _) bAcc (Memref.isWhole_whole _) bAmax (Memref.isWhole_whole _) bNewHist (Memref.isWhole_whole _) bScale (Memref.isWhole_whole _)
      cc0_scratch13 cc0_scratch14 cc0_scratch15 cc0_scratch16 cc0_scratch17)
      (fun _ => (iprop(own c aParts XP ∗ own c aScales S ∗ own c aBias B ∗ own c aX XX ∗ own c aGain G ∗ own c aHist H
     ∗ own c oRes (Gres (mkI XP XX S B G H)) ∗ own c oAmax (amaxOut (mkI XP XX S B G H)) ∗ own c oHist (histOut (mkI XP XX S B G H) H)
     ∗ own c oCodes (Gcodes (mkI XP XX S B G H)) ∗ own c oScale (scaleOut H)
     ∗ someOf (F := F) c bParts ∗ someOf (F := F) c bX ∗ someOf (F := F) c bRes ∗ someOf (F := F) c bCodes ∗ someOf (F := F) c bScales ∗ someOf (F := F) c bBias ∗ someOf (F := F) c bGain ∗ someOf (F := F) c bHist
     ∗ someOf (F := F) c bLhs ∗ someOf (F := F) c bAcc ∗ someOf (F := F) c bAmax ∗ someOf (F := F) c bNewHist ∗ someOf (F := F) c bScale
     ∗ (semZ (F := F) c (pSem 0) ∗ semZ (F := F) c (pSem 1) ∗ semZ (F := F) c (pSem 2) ∗ semZ (F := F) c (pSem 3))
     ∗ (semZ (F := F) c (xSem 0) ∗ semZ (F := F) c (xSem 1) ∗ semZ (F := F) c (xSem 2) ∗ semZ (F := F) c (xSem 3))
     ∗ (semZ (F := F) c (smallSem ![0] inb_S4_S1_0) ∗ semZ (F := F) c (smallSem ![1] inb_S4_S1_1) ∗ semZ (F := F) c (smallSem ![2] inb_S4_S1_2) ∗ semZ (F := F) c (smallSem ![3] inb_S4_S1_3))
     ∗ (semZ (F := F) c (scalarSem ![0] inb_S3_S1_0) ∗ semZ (F := F) c (scalarSem ![1] inb_S3_S1_1) ∗ semZ (F := F) c (scalarSem ![2] inb_S3_S1_2))
     ∗ semZ (F := F) c cc0_scratch17
     ∗ (∃ W, owes (c : Thread nD τ) 0 W)) : sProp 𝕄)) := by
  obtain ⟨I, hI⟩ : ∃ I : Inp F, I = mkI XP XX S B G H := ⟨_, rfl⟩
  have eXP : I.XP = XP := by rw [hI]; rfl
  have eXX : I.XX = XX := by rw [hI]; rfl
  rw [← hI, ← eXP, ← eXX, p_groups c I, x_groups c I, eight, eight]
  iintro ⟨⟨Hp0, Hp1, Hp2, Hp3, Hp4, Hp5, Hp6, Hp7⟩, Hs, Hb, ⟨Hx0, Hx1, Hx2, Hx3, Hx4, Hx5, Hx6, Hx7⟩, Hg, Hh, ⟨%fo6, Hor⟩, ⟨%fo7, Hoa⟩, ⟨%fo8, Hoh⟩, ⟨%fo9, Hoc⟩, ⟨%fo10, Hos⟩,
    ⟨%f0, Hbp⟩, ⟨%f1, Hbx⟩, ⟨%f2, Hbr⟩, ⟨%f3, Hbc⟩, ⟨%f4, Hbs⟩, ⟨%f5, Hbb⟩, ⟨%f6, Hbg⟩, ⟨%f7, Hbh⟩, ⟨%f8, Hbl⟩, ⟨%f9, Hba⟩, ⟨%f10, Hbm⟩, ⟨%f11, Hbn⟩, ⟨%f12, Hbk⟩,
    ⟨Sp0, Sp1, Sp2, Sp3⟩, ⟨Sx0, Sx1, Sx2, Sx3⟩, ⟨Ss0, Ss1, Ss2, Ss3⟩, ⟨Sc0, Sc1, Sc2⟩, So, %W, HO⟩
  ihave Hbp' := (Entails.of_eq ((p_slots c f0).trans (four _))) $$ Hbp
  icases Hbp' with ⟨Bp0, Bp1, Bp2, Bp3⟩
  ihave Hbx' := (Entails.of_eq ((x_slots c f1).trans (four _))) $$ Hbx
  icases Hbx' with ⟨Bx0, Bx1, Bx2, Bx3⟩
  imod (Transfers.mixedBatch_alloc' (Lvl := ℕ) (ECd (F := F)) (c : Thread nD τ) () outA (outD I c) (sm := SemLoc.dma (SemArray.sem cc0_scratch17)) (E := Set.univ)) $$ So with HB
  rw [cc0_body_eq_skeleton]
  sl_unfold [cc0_body_skel]
  sl_exec
  have hH : run.sl.r_2 c H f7 = k0_pay66 H ∧ run.sl.r_3 c H f7 = k0_pay67 H := by
    have e : bHist.view.readAt (Elt F) (Rect.unit (s := S1x16) ![0, 0] S1x16.size inb_S1x16_S1x16_0_0).toLoadRect (bHist.view.write (Elt F) f7 (aHist.view.read (Elt F) H) Finset.univ) = H :=
      (View.readAt_full bHist.view _ _).trans (View.read_write_univ _ _)
    exact ⟨congrArg k0_pay66 e, congrArg k0_pay67 e⟩
  have hL : bLhs.view.writes (Elt F) bLhs.view.junk (run.sl.Hbl_2 c S f4) = I.L := by
    rw [hI]; show _ = lhsL S
    have e : bScales.view.write (Elt F) f4 (aScales.view.read (Elt F) S) Finset.univ = S := by
      show bScales.view.read (Elt F) (bScales.view.write (Elt F) f4 (aScales.view.read (Elt F) S) Finset.univ) = S; exact View.read_write_univ _ _
    unfold lhsL
    exact congrArg (fun z => bLhs.view.writes (Elt F) (bLhs.view.junk)
    [⟨Rect.unit (s := S256x512) ![128, 0] S128x512.size inb_S256x512_S128x512_128_0, k0_pay65 (k0_pay62 (F := F) k0_pay60 k0_pay61) k0_pay63 (bScales.view.readAt (Elt F) (Rect.unit (s := S16x2x128) ![0, 1, 0] S16x1x128.size inb_S16x2x128_S16x1x128_0_1_0).toLoadRect z)⟩,
     ⟨Rect.unit (s := S256x512) ![0, 0] S128x512.size inb_S256x512_S128x512_0_0, k0_pay64 (k0_pay62 (F := F) k0_pay60 k0_pay61) k0_pay63 (bScales.view.readAt (Elt F) (Rect.unit (s := S16x2x128) ![0, 0, 0] S16x1x128.size inb_S16x2x128_S16x1x128_0_0_0).toLoadRect z)⟩]) e
  have hB : bBias.view.write (Elt F) f5 (run.sl.dma0_1 B) Finset.univ = I.B := by
    rw [hI]; show bBias.view.read (Elt F) (bBias.view.write (Elt F) f5 (aBias.view.read (Elt F) B) Finset.univ) = B; exact View.read_write_univ _ _
  have hG : bGain.view.write (Elt F) f6 (run.sl.dma0_2 G) Finset.univ = I.G := by
    rw [hI]; show bGain.view.read (Elt F) (bGain.view.write (Elt F) f6 (aGain.view.read (Elt F) G) Finset.univ) = G; exact View.read_write_univ _ _
  have hA : bAcc.view.writes (Elt F) bAcc.view.junk run.sl.Hba_1 = amaxS I 0 := acc_store _ _ _
  sl_for (inv I c) $$ [Hp4 Hp5 Hp6 Hp7 Hx4 Hx5 Hx6 Hx7 Hor Hoc Hbr Hbc Hbl Hba HB Sx0 Sp0 Sx1 Sp1 Sx2 Sp2 Sx3 Sp3 Hbb Hbg HO]
  case region =>
    intro k u
    exact inv_step I c k _ _ _ (by rw [hH.1, hH.2, hI]; rfl) u
  · unfold inv keepB outB
    isplitl [Hp4 Hp5 Hp6 Hp7 Hx4 Hx5 Hx6 Hx7 Hor Hoc Hbr Hbc Sx0 Sp0 Sx1 Sp1 Sx2 Sp2 Sx3 Sp3]
    · iapply (Entails.of_eq (eight (St I c 0)).symm)
      rw [St_fly I c (g := 0) (n := 0) (by decide) (by decide), St_fly I c (g := 1) (n := 0) (by decide) (by decide), St_fly I c (g := 2) (n := 0) (by decide) (by decide),
        St_fly I c (g := 3) (n := 0) (by decide) (by decide), St_home I c (g := 4) (n := 0) (by decide), St_home I c (g := 5) (n := 0) (by decide), St_home I c (g := 6) (n := 0) (by decide), St_home I c (g := 7) (n := 0) (by decide)]
      ihave Hbr' := (Entails.of_eq ((res_rows c f2).trans (eight _))) $$ Hbr
      icases Hbr' with ⟨Br0, Br1, Br2, Br3, Br4, Br5, Br6, Br7⟩
      ihave Hbc' := (Entails.of_eq ((codes_rows c f3).trans (eight _))) $$ Hbc
      icases Hbc' with ⟨Bc0, Bc1, Bc2, Bc3, Bc4, Bc5, Bc6, Bc7⟩
      ihave Hor' := (Entails.of_eq ((res_groups c fo6).trans (eight _))) $$ Hor
      icases Hor' with ⟨Or0, Or1, Or2, Or3, Or4, Or5, Or6, Or7⟩
      ihave Hoc' := (Entails.of_eq ((codes_groups c fo9).trans (eight _))) $$ Hoc
      icases Hoc' with ⟨Oc0, Oc1, Oc2, Oc3, Oc4, Oc5, Oc6, Oc7⟩
      isplitl [Sp0 Sx0 Br0 Bc0 Or0 Oc0]
      · isplitl [Sp0 Sx0]
        · isplitl [Sp0]
          · iapply (pFl_intro I c 0 0 f0); iexact Sp0
          · iapply (xFl_intro I c 0 0 f1); iexact Sx0
        · iapply (todo_intro c 0 f2 f3 fo6 fo9)
          isplitl [Br0]; · iexact Br0
          isplitl [Bc0]; · iexact Bc0
          isplitl [Or0] <;> iassumption
      isplitl [Sp1 Sx1 Br1 Bc1 Or1 Oc1]
      · isplitl [Sp1 Sx1]
        · isplitl [Sp1]
          · iapply (pFl_intro I c 1 1 f0); iexact Sp1
          · iapply (xFl_intro I c 1 1 f1); iexact Sx1
        · iapply (todo_intro c 1 f2 f3 fo6 fo9)
          isplitl [Br1]; · iexact Br1
          isplitl [Bc1]; · iexact Bc1
          isplitl [Or1] <;> iassumption
      isplitl [Sp2 Sx2 Br2 Bc2 Or2 Oc2]
      · isplitl [Sp2 Sx2]
        · isplitl [Sp2]
          · iapply (pFl_intro I c 2 2 f0); iexact Sp2
          · iapply (xFl_intro I c 2 2 f1); iexact Sx2
        · iapply (todo_intro c 2 f2 f3 fo6 fo9)
          isplitl [Br2]; · iexact Br2
          isplitl [Bc2]; · iexact Bc2
          isplitl [Or2] <;> iassumption
      isplitl [Sp3 Sx3 Br3 Bc3 Or3 Oc3]
      · isplitl [Sp3 Sx3]
        · isplitl [Sp3]
          · iapply (pFl_intro I c 3 3 f0); iexact Sp3
          · iapply (xFl_intro I c 3 3 f1); iexact Sx3
        · iapply (todo_intro c 3 f2 f3 fo6 fo9)
          isplitl [Br3]; · iexact Br3
          isplitl [Bc3]; · iexact Bc3
          isplitl [Or3] <;> iassumption
      isplitl [Hp4 Hx4 Br4 Bc4 Or4 Oc4]
      · isplitl [Hp4 Hx4]
        · isplitl [Hp4] <;> iassumption
        · iapply (todo_intro c 4 f2 f3 fo6 fo9)
          isplitl [Br4]; · iexact Br4
          isplitl [Bc4]; · iexact Bc4
          isplitl [Or4] <;> iassumption
      isplitl [Hp5 Hx5 Br5 Bc5 Or5 Oc5]
      · isplitl [Hp5 Hx5]
        · isplitl [Hp5] <;> iassumption
        · iapply (todo_intro c 5 f2 f3 fo6 fo9)
          isplitl [Br5]; · iexact Br5
          isplitl [Bc5]; · iexact Bc5
          isplitl [Or5] <;> iassumption
      isplitl [Hp6 Hx6 Br6 Bc6 Or6 Oc6]
      · isplitl [Hp6 Hx6]
        · isplitl [Hp6] <;> iassumption
        · iapply (todo_intro c 6 f2 f3 fo6 fo9)
          isplitl [Br6]; · iexact Br6
          isplitl [Bc6]; · iexact Bc6
          isplitl [Or6] <;> iassumption
      isplitl [Hp7 Hx7]
      · isplitl [Hp7] <;> iassumption
      · iapply (todo_intro c 7 f2 f3 fo6 fo9)
        isplitl [Br7]; · iexact Br7
        isplitl [Bc7]; · iexact Bc7
        isplitl [Or7] <;> iassumption
    isplitl [Hbl Hba Hbb Hbg]
    · isplitl [Hbl]; · iapply (Entails.of_eq (congrArg (own c bLhs) hL)); iexact Hbl
      isplitl [Hbb]; · iapply (Entails.of_eq (congrArg (own c bBias) hB)); iexact Hbb
      isplitl [Hbg]; · iapply (Entails.of_eq (congrArg (own c bGain) hG)); iexact Hbg
      iapply (Entails.of_eq (congrArg (own c bAcc) hA)); iexact Hba
    isplitl [HB]; · iexact HB
    iexists _; iexact HO
  iintro %_ HI
  ihave HI' := (Entails.of_eq (show inv I c k0_t1_loop.trips _ = inv I c 8 _ by rw [trips_eq])) $$ HI
  unfold inv keepB outB
  icases HI' with ⟨HS, ⟨Hbl, Hbb, Hbg, Hba⟩, HB, %W', HO⟩
  sl_exec
  sl_step
  have hwH : bHist.view.write (Elt F) f7 (run.sl.dma0_3 H) Finset.univ = H := by
    show bHist.view.read (Elt F) (bHist.view.write (Elt F) f7 (aHist.view.read (Elt F) H) Finset.univ) = H; exact View.read_write_univ _ _
  have h7 : oAmax.view.write (Elt F) fo7 (run.sl.dma6 c I f10) Finset.univ = amaxOut I := by
    have e : bAcc.view.readAt (Elt F) (Rect.unit (s := S32x128) ![0, 0] S32x128.size inb_S32x128_S32x128_0_0).toLoadRect (amaxS I 8) = amaxS I 8 := acc_load _ _
    refine (show oAmax.view.write (Elt F) fo7 (run.sl.dma6 c I f10) Finset.univ = k0_pay73 (k0_pay72 (bAcc.view.readAt (Elt F) (Rect.unit (s := S32x128) ![0, 0] S32x128.size inb_S32x128_S32x128_0_0).toLoadRect (amaxS I 8))) from ?_).trans (congrArg (fun a => k0_pay73 (k0_pay72 a)) e)
    show oAmax.view.read (Elt F) (oAmax.view.write (Elt F) fo7 (run.sl.dma6 c I f10) Finset.univ) = _
    refine (View.read_write_univ _ _).trans ?_
    exact View.read_writes_full bAmax.view _ _ _ []
  have h8 : oHist.view.write (Elt F) fo8 (run.sl.dma6_1 c H I f7 f11) Finset.univ = histOut I H := by
    have e : bAcc.view.readAt (Elt F) (Rect.unit (s := S32x128) ![0, 0] S32x128.size inb_S32x128_S32x128_0_0).toLoadRect (amaxS I 8) = amaxS I 8 := acc_load _ _
    refine (show _ = k0_pay74 (k0_pay72 (bAcc.view.readAt (Elt F) (Rect.unit (s := S32x128) ![0, 0] S32x128.size inb_S32x128_S32x128_0_0).toLoadRect (amaxS I 8)))
      (bHist.view.readAt (Elt F) (Rect.unit (s := S1x16) ![0, 1] S1x15.size inb_S1x16_S1x15_0_1).toLoadRect (bHist.view.write (Elt F) f7 (run.sl.dma0_3 H) Finset.univ)) from ?_).trans (congrArg₂ (fun a h => k0_pay74 (k0_pay72 a) (bHist.view.readAt (Elt F) (Rect.unit (s := S1x16) ![0, 1] S1x15.size inb_S1x16_S1x15_0_1).toLoadRect h)) e hwH)
    show oHist.view.read (Elt F) (oHist.view.write (Elt F) fo8 (run.sl.dma6_1 c H I f7 f11) Finset.univ) = _
    refine (View.read_write_univ _ _).trans ?_
    exact View.read_writes_full bNewHist.view _ _ _ []
  have h10 : oScale.view.write (Elt F) fo10 (run.sl.dma9 c H f7 f12) Finset.univ = scaleOut H := by
    refine (show _ = k0_pay70 (run.sl.r_2 c H f7) (run.sl.r_3 c H f7) 255#32 from ?_).trans (by rw [hH.1, hH.2]; rfl)
    show oScale.view.read (Elt F) (oScale.view.write (Elt F) fo10 (run.sl.dma9 c H f7 f12) Finset.univ) = _
    refine (View.read_write_univ _ _).trans ?_
    exact View.read_writes_full bScale.view _ _ _ []
  ihave HS' := (Entails.of_eq (eight (St I c 8))) $$ HS
  rw [St_lo I c (g := 0) (n := 8) (by decide) (by decide), St_lo I c (g := 1) (n := 8) (by decide) (by decide), St_lo I c (g := 2) (n := 8) (by decide) (by decide), St_lo I c (g := 3) (n := 8) (by decide) (by decide),
    St_hi I c (g := 4) (n := 8) (by decide) (by decide), St_hi I c (g := 5) (n := 8) (by decide) (by decide), St_hi I c (g := 6) (n := 8) (by decide) (by decide), St_hi I c (g := 7) (n := 8) (by decide) (by decide)]
  unfold pFree xFree
  icases HS' with ⟨⟨⟨Hp0, Hx0⟩, -⟩, ⟨⟨Hp1, Hx1⟩, -⟩, ⟨⟨Hp2, Hx2⟩, -⟩, ⟨⟨Hp3, Hx3⟩, -⟩, ⟨⟨Hp4, Hx4⟩, ⟨Bp0, Sp0⟩, Bx0, Sx0⟩, ⟨⟨Hp5, Hx5⟩, ⟨Bp1, Sp1⟩, Bx1, Sx1⟩, ⟨⟨Hp6, Hx6⟩, ⟨Bp2, Sp2⟩, Bx2, Sx2⟩, ⟨⟨Hp7, Hx7⟩, ⟨Bp3, Sp3⟩, Bx3, Sx3⟩⟩
  isplitl [Hp0 Hp1 Hp2 Hp3 Hp4 Hp5 Hp6 Hp7]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  isplitl [Hs]; · iexact Hs
  isplitl [Hb]; · iexact Hb
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hg]; · iexact Hg
  isplitl [Hh]; · iexact Hh
  isplitl [HB_dst0 HB_dst2 HB_dst4 HB_dst6 HB_dst8 HB_dst10 HB_dst12 HB_dst14]
  · iapply (Entails.of_eq ((res_groups c (Gres I)).trans (eight _)).symm)
    isplitl [HB_dst0]; · iexact HB_dst0
    isplitl [HB_dst2]; · iexact HB_dst2
    isplitl [HB_dst4]; · iexact HB_dst4
    isplitl [HB_dst6]; · iexact HB_dst6
    isplitl [HB_dst8]; · iexact HB_dst8
    isplitl [HB_dst10]; · iexact HB_dst10
    isplitl [HB_dst12]; · iexact HB_dst12
    iexact HB_dst14
  isplitl [Hoa]; · iapply (Entails.of_eq (congrArg (own c oAmax) h7)); iexact Hoa
  isplitl [Hoh]; · iapply (Entails.of_eq (congrArg (own c oHist) h8)); iexact Hoh
  isplitl [HB_dst1 HB_dst3 HB_dst5 HB_dst7 HB_dst9 HB_dst11 HB_dst13 HB_dst15]
  · iapply (Entails.of_eq ((codes_groups c (Gcodes I)).trans (eight _)).symm)
    isplitl [HB_dst1]; · iexact HB_dst1
    isplitl [HB_dst3]; · iexact HB_dst3
    isplitl [HB_dst5]; · iexact HB_dst5
    isplitl [HB_dst7]; · iexact HB_dst7
    isplitl [HB_dst9]; · iexact HB_dst9
    isplitl [HB_dst11]; · iexact HB_dst11
    isplitl [HB_dst13]; · iexact HB_dst13
    iexact HB_dst15
  isplitl [Hos]; · iapply (Entails.of_eq (congrArg (own c oScale) h10)); iexact Hos
  isplitl [Bp0 Bp1 Bp2 Bp3]
  · iapply (p_join c f0)
    iapply (Entails.of_eq (four _).symm)
    isplitl [Bp0]; · iexact Bp0
    isplitl [Bp1]; · iexact Bp1
    isplitl [Bp2]; · iexact Bp2
    iexact Bp3
  isplitl [Bx0 Bx1 Bx2 Bx3]
  · iapply (x_join c f1)
    iapply (Entails.of_eq (four _).symm)
    isplitl [Bx0]; · iexact Bx0
    isplitl [Bx1]; · iexact Bx1
    isplitl [Bx2]; · iexact Bx2
    iexact Bx3
  isplitl [HB_src0 HB_src2 HB_src4 HB_src6 HB_src8 HB_src10 HB_src12 HB_src14]
  · iapply (res_join c f2)
    iapply (Entails.of_eq (eight _).symm)
    isplitl [HB_src0]; · iexact HB_src0
    isplitl [HB_src2]; · iexact HB_src2
    isplitl [HB_src4]; · iexact HB_src4
    isplitl [HB_src6]; · iexact HB_src6
    isplitl [HB_src8]; · iexact HB_src8
    isplitl [HB_src10]; · iexact HB_src10
    isplitl [HB_src12]; · iexact HB_src12
    iexact HB_src14
  isplitl [HB_src1 HB_src3 HB_src5 HB_src7 HB_src9 HB_src11 HB_src13 HB_src15]
  · iapply (codes_join c f3)
    iapply (Entails.of_eq (eight _).symm)
    isplitl [HB_src1]; · iexact HB_src1
    isplitl [HB_src3]; · iexact HB_src3
    isplitl [HB_src5]; · iexact HB_src5
    isplitl [HB_src7]; · iexact HB_src7
    isplitl [HB_src9]; · iexact HB_src9
    isplitl [HB_src11]; · iexact HB_src11
    isplitl [HB_src13]; · iexact HB_src13
    iexact HB_src15
  isplitl [Hbs]; · iexists _; iexact Hbs
  isplitl [Hbb]; · iexists _; iexact Hbb
  isplitl [Hbg]; · iexists _; iexact Hbg
  isplitl [Hbh]; · iexists _; iexact Hbh
  isplitl [Hbl]; · iexists _; iexact Hbl
  isplitl [Hba]; · iexists _; iexact Hba
  isplitl [Hbm]; · iexists _; iexact Hbm
  isplitl [Hbn]; · iexists _; iexact Hbn
  isplitl [Hbk]; · iexists _; iexact Hbk
  isplitl [Sp0 Sp1 Sp2 Sp3]
  · isplitl [Sp0]; · iexact Sp0
    isplitl [Sp1]; · iexact Sp1
    isplitl [Sp2]; · iexact Sp2
    iexact Sp3
  isplitl [Sx0 Sx1 Sx2 Sx3]
  · isplitl [Sx0]; · iexact Sx0
    isplitl [Sx1]; · iexact Sx1
    isplitl [Sx2]; · iexact Sx2
    iexact Sx3
  isplitl [Ss0 Ss1 Ss2 Ss3]
  · isplitl [Ss0]; · iexact Ss0
    isplitl [Ss1]; · iexact Ss1
    isplitl [Ss2]; · iexact Ss2
    iexact Ss3
  isplitl [Sc0 Sc1 Sc2]
  · isplitl [Sc0]; · iexact Sc0
    isplitl [Sc1]; · iexact Sc1
    iexact Sc2
  isplitl [HB]; · iexact HB
  iexists _; iexact HO

end Cert.Proof.Run

end
-- ==== Proof.Launch.lean ====
/-
  The kernel as launched: from any memory the whole program ends with its five results at the contents the body's
  run names, its arguments unchanged, and every semaphore counter at zero.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## What is handed to the body -/

/-- The sixteen semaphore cells: four for the tiles of the partials, four for the tiles of `x`, four for the small
    copies in, three for the small results, one for the tiles of the results. -/
abbrev osem : Fin 16 → SemLoc sig := fun j => SemLoc.dma j
theorem osem_facts : Pipeline.OwnSemFacts cfg0.spec osem := by decide

/-- The buffers the body reads, and the buffers it writes. -/
def rd : Finset (Ref sig .tc) := {main_arg0, main_arg1, main_v0, main_arg3, main_v1, main_v2}
def wr : Finset (Ref sig .tc) := {main_v3_0, main_v3_1, main_v3_2, main_v3_3, main_v3_4}
theorem rd_sub : rd ⊆ Pipeline.restRefs sig cfg0.spec := by decide
theorem wr_sub : wr ⊆ Pipeline.restRefs sig cfg0.spec \ rd := by decide

/-- The body's inputs on core `c`, from the memory it is entered with. -/
def inp (c : Dev nD) : Inp F := mkI (V m c main_arg0) (V m c main_arg3) (V m c main_arg1) (V m c main_v0) (V m c main_v1) (V m c main_v2)

/-- What the written buffers end with. -/
def out (c : Dev nD) : (b : Ref sig .tc) → Buf (Elt F) ((c : Thread nD τ).loc b) :=
  Function.update (Function.update (Function.update (Function.update (Function.update (V m c)
    main_v3_0 (Gres (inp m c))) main_v3_1 (amaxOut (inp m c))) main_v3_2 (histOut (inp m c) (V m c main_v2)))
    main_v3_3 (Gcodes (inp m c))) main_v3_4 (scaleOut (V m c main_v2))

theorem out_0 (c : Dev nD) : out m c main_v3_0 = Gres (inp m c) := by
  unfold out
  rw [Function.update_of_ne (by decide), Function.update_of_ne (by decide), Function.update_of_ne (by decide), Function.update_of_ne (by decide), Function.update_self]
theorem out_1 (c : Dev nD) : out m c main_v3_1 = amaxOut (inp m c) := by
  unfold out
  rw [Function.update_of_ne (by decide), Function.update_of_ne (by decide), Function.update_of_ne (by decide), Function.update_self]
theorem out_2 (c : Dev nD) : out m c main_v3_2 = histOut (inp m c) (V m c main_v2) := by
  unfold out
  rw [Function.update_of_ne (by decide), Function.update_of_ne (by decide), Function.update_self]
theorem out_3 (c : Dev nD) : out m c main_v3_3 = Gcodes (inp m c) := by
  unfold out
  rw [Function.update_of_ne (by decide), Function.update_self]
theorem out_4 (c : Dev nD) : out m c main_v3_4 = scaleOut (V m c main_v2) := by
  unfold out
  rw [Function.update_self]

theorem sems_eq (c : Dev nD) :
    (Pipeline.ownSems0 (Ix := Unit) (Name := ℕ) (U := Pipeline.UD sig nD τ) (Lvl := ℕ) (Val := Elt F) (τ := τ) osem c : sProp 𝕄)
      = iprop(semZ (F := F) c (pSem 0) ∗ semZ (F := F) c (pSem 1) ∗ semZ (F := F) c (pSem 2) ∗ semZ (F := F) c (pSem 3)
          ∗ semZ (F := F) c (xSem 0) ∗ semZ (F := F) c (xSem 1) ∗ semZ (F := F) c (xSem 2) ∗ semZ (F := F) c (xSem 3)
          ∗ semZ (F := F) c (smallSem ![0] inb_S4_S1_0) ∗ semZ (F := F) c (smallSem ![1] inb_S4_S1_1) ∗ semZ (F := F) c (smallSem ![2] inb_S4_S1_2) ∗ semZ (F := F) c (smallSem ![3] inb_S4_S1_3)
          ∗ semZ (F := F) c (scalarSem ![0] inb_S3_S1_0) ∗ semZ (F := F) c (scalarSem ![1] inb_S3_S1_1) ∗ semZ (F := F) c (scalarSem ![2] inb_S3_S1_2)
          ∗ semZ (F := F) c cc0_scratch17) := by
  rw [Pipeline.ownSems0_eq_of_list c osem [0, 1, 2, 3, 4, 5, 6, 7, 8, 9, 10, 11, 12, 13, 14, 15] (by decide) (by decide)]; rfl

theorem rd_eq (c : Dev nD) :
    (bigSep rd (fun b => ((c : Thread nD τ).loc b) ↦{fullShare} V m c b) : sProp 𝕄)
      = iprop(own (F := F) c aParts (V m c main_arg0) ∗ own (F := F) c aScales (V m c main_arg1) ∗ own (F := F) c aBias (V m c main_v0)
          ∗ own (F := F) c aX (V m c main_arg3) ∗ own (F := F) c aGain (V m c main_v1) ∗ own (F := F) c aHist (V m c main_v2)) := by
  rw [BI.bigSep_eq_bigSepL_of_eq [main_arg0, main_arg1, main_v0, main_arg3, main_v1, main_v2] (by decide) (by decide)]; rfl

theorem wr_eq (c : Dev nD) (W : (b : Ref sig .tc) → Buf (Elt F) ((c : Thread nD τ).loc b)) :
    (Pipeline.routed wr c W : sProp 𝕄)
      = iprop(own (F := F) c oRes (W main_v3_0) ∗ own (F := F) c oAmax (W main_v3_1) ∗ own (F := F) c oHist (W main_v3_2)
          ∗ own (F := F) c oCodes (W main_v3_3) ∗ own (F := F) c oScale (W main_v3_4)) := by
  unfold Pipeline.routed
  rw [BI.bigSep_eq_bigSepL_of_eq [main_v3_0, main_v3_1, main_v3_2, main_v3_3, main_v3_4] (by decide) (by decide)]; rfl

theorem scratch_eq (c : Dev nD) :
    (Pipeline.scopedRest (Ix := Unit) (Name := ℕ) (U := Pipeline.UD sig nD τ) (Lvl := ℕ) (Val := Elt F) cfg0.spec c : sProp 𝕄)
      = iprop(someOf (F := F) c bParts ∗ someOf (F := F) c bX ∗ someOf (F := F) c bRes ∗ someOf (F := F) c bCodes ∗ someOf (F := F) c bScales ∗ someOf (F := F) c bBias ∗ someOf (F := F) c bGain ∗ someOf (F := F) c bHist
     ∗ someOf (F := F) c bLhs ∗ someOf (F := F) c bAcc ∗ someOf (F := F) c bAmax ∗ someOf (F := F) c bNewHist ∗ someOf (F := F) c bScale) := by
  rw [scopedRest0_eq]

/-! ## The proof data and the body obligation -/

/-- The invariant: before the one point the written buffers hold what they were entered with, after it the results. -/
def Phi (c : Dev nD) (n : ℕ) : sProp 𝕄 :=
  Pipeline.ΦDRG osem cfg0.spec rd wr (V m) (if n = 0 then V m else out m) c

def dats (_ : Fin 1) (c : Dev nD) : Dat τ (Elt F) Unit ℕ (Pipeline.UD sig nD τ) ℕ cfg0 c where
  A w := V m c (Pipeline.arrRef cfg0.spec w)
  after w t := w.elim0
  Φ t := Phi m c t.val
  q _ := fullShare
  owed _ := 0

theorem defs_row (t : Fin cfg0.N) :
    defs₀ (F := F) .tc cfg0.body (cfg0.bodyArgs t (cfg0.slots t)) = bodyAt0 t := by
  unfold defs₀; rw [Defs.onTc_tc]

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  dsimp only
  rw [defs_row]
  rw [show (dats m 0 c).Φ t0_0.castSucc = Pipeline.ΦDRG osem cfg0.spec rd wr (V m) (V m) c from rfl,
    show (dats m 0 c).Φ t0_0.succ = Pipeline.ΦDRG osem cfg0.spec rd wr (V m) (out m) c from rfl]
  simp only [Pipeline.ΦDRG_eq, scratch_eq, sems_eq, rd_eq, wr_eq, out_0, out_1, out_2, out_3, out_4]
  unfold Dat.owesAt Pipeline.owesWithin
  rw [show (dats m 0 c).owed t0_0.castSucc = 0 from rfl, show (dats m 0 c).owed t0_0.succ = 0 from rfl]
  iintro ⟨⟨⟨S0, S1, S2, S3, S4, S5, S6, S7, S8, S9, S10, S11, S12⟩, Hg, ⟨Q0, Q1, Q2, Q3, Q4, Q5, Q6, Q7, Q8, Q9, Q10, Q11, Q12, Q13, Q14, Q15⟩, ⟨A0, A1, A2, A3, A4, A5⟩, ⟨O0, O1, O2, O3, O4⟩⟩, ⟨%W, -, HW⟩, HE⟩
  iapply (wp_wand_r frame (wpE defs₀ 𝒱₀ (c : Thread nD τ) none) Set.univ)
  isplitr [Hg HE]
  · iapply (run c (V m c main_arg0) (V m c main_arg3) (V m c main_arg1) (V m c main_v0) (V m c main_v1) (V m c main_v2))
    isplitl [A0]; · iexact A0
    isplitl [A1]; · iexact A1
    isplitl [A2]; · iexact A2
    isplitl [A3]; · iexact A3
    isplitl [A4]; · iexact A4
    isplitl [A5]; · iexact A5
    isplitl [O0]; · iexists _; iexact O0
    isplitl [O1]; · iexists _; iexact O1
    isplitl [O2]; · iexists _; iexact O2
    isplitl [O3]; · iexists _; iexact O3
    isplitl [O4]; · iexists _; iexact O4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [Q0 Q1 Q2 Q3]
    · isplitl [Q0]; · iexact Q0
      isplitl [Q1]; · iexact Q1
      isplitl [Q2]; · iexact Q2
      iexact Q3
    isplitl [Q4 Q5 Q6 Q7]
    · isplitl [Q4]; · iexact Q4
      isplitl [Q5]; · iexact Q5
      isplitl [Q6]; · iexact Q6
      iexact Q7
    isplitl [Q8 Q9 Q10 Q11]
    · isplitl [Q8]; · iexact Q8
      isplitl [Q9]; · iexact Q9
      isplitl [Q10]; · iexact Q10
      iexact Q11
    isplitl [Q12 Q13 Q14]
    · isplitl [Q12]; · iexact Q12
      isplitl [Q13]; · iexact Q13
      iexact Q14
    isplitl [Q15]; · iexact Q15
    iexists W; iexact HW
  · iintro %u ⟨A0, A1, A2, A3, A4, A5, O0, O1, O2, O3, O4, S0, S1, S2, S3, S4, S5, S6, S7, S8, S9, S10, S11, S12, ⟨Q0, Q1, Q2, Q3⟩, ⟨Q4, Q5, Q6, Q7⟩, ⟨Q8, Q9, Q10, Q11⟩, ⟨Q12, Q13, Q14⟩, Q15, ⟨%W', HW⟩⟩
    isplitr [HW HE]
    · isplitl [S0 S1 S2 S3 S4 S5 S6 S7 S8 S9 S10 S11 S12]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact S12
      isplitl [Hg]; · iexact Hg
      isplitl [Q0 Q1 Q2 Q3 Q4 Q5 Q6 Q7 Q8 Q9 Q10 Q11 Q12 Q13 Q14 Q15]
      · isplitl [Q0]; · iexact Q0
        isplitl [Q1]; · iexact Q1
        isplitl [Q2]; · iexact Q2
        isplitl [Q3]; · iexact Q3
        isplitl [Q4]; · iexact Q4
        isplitl [Q5]; · iexact Q5
        isplitl [Q6]; · iexact Q6
        isplitl [Q7]; · iexact Q7
        isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        iexact Q15
      isplitl [A0 A1 A2 A3 A4 A5]
      · isplitl [A0]; · iexact A0
        isplitl [A1]; · iexact A1
        isplitl [A2]; · iexact A2
        isplitl [A3]; · iexact A3
        isplitl [A4]; · iexact A4
        iexact A5
      isplitl [O0]; · iexact O0
      isplitl [O1]; · iexact O1
      isplitl [O2]; · iexact O2
      isplitl [O3]; · iexact O3
      iexact O4
    isplitl [HW]
    · iexists W'; isplitr; · ipureintro; exact fun _ _ => Or.inl trivial
      iexact HW
    iexact HE

/-! ## The run -/

theorem hmainD : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 wr (V m) (out m) r ∧ r.2.sem = fun _ => 0) :=
  Pipeline.θ_run_frame_dmaRG (Q' := _) cfgs (dats m) (0 : Fin 1) launch0 osem defs₀ 𝒱₀ osem_facts rd wr rd_sub wr_sub m ρ main
    (hbody := fun c => (body_obligation m c).loose) (hshare := fun c w => w.elim0)
    (howed := fun _ _ => rfl) (V := V m) (hmain := hmainD m) (hA := fun c w => w.elim0) (G := out m)
    (hin := fun _ => .rfl) (hout := fun _ => .rfl)

/-- The whole program: its five results, its arguments, its counters. -/
theorem whole : θ_run defs (onTc (τ := τ) (main (F := F))) ⟨m, fun _ => 0, ρ⟩ (fun r => (∀ c : Dev nD,
      (r.2.mem ((c.tc : Thread nD τ).loc main_v3_0) = Gres (inp m c)
      ∧ r.2.mem ((c.tc : Thread nD τ).loc main_v3_1) = amaxOut (inp m c)
      ∧ r.2.mem ((c.tc : Thread nD τ).loc main_v3_2) = histOut (inp m c) (V m c main_v2)
      ∧ r.2.mem ((c.tc : Thread nD τ).loc main_v3_3) = Gcodes (inp m c)
      ∧ r.2.mem ((c.tc : Thread nD τ).loc main_v3_4) = scaleOut (V m c main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
      have hw : ∀ b ∈ wr, r.2.mem ((c.tc : Thread nD τ).loc b) = out m c b := fun b hb => h.1.written c hb
      have ha : ∀ b ∈ Pipeline.restRefs sig cfg0.spec \ wr, r.2.mem ((c.tc : Thread nD τ).loc b) = V m c b :=
        fun b hb => (h.1.1 c).2 b hb
      exact ⟨⟨(hw _ (by decide)).trans (out_0 m c), (hw _ (by decide)).trans (out_1 m c), (hw _ (by decide)).trans (out_2 m c),
          (hw _ (by decide)).trans (out_3 m c), (hw _ (by decide)).trans (out_4 m c)⟩,
        (ha _ (by decide)).trans (V_main_arg0 m c), (ha _ (by decide)).trans (V_main_arg1 m c),
        (ha _ (by decide)).trans (V_main_arg2 m c), (ha _ (by decide)).trans (V_main_arg3 m c),
        (ha _ (by decide)).trans (V_main_arg4 m c), (ha _ (by decide)).trans (V_main_arg5 m c)⟩, h.2⟩) (run_main m ρ)

end Cert.Proof.Run

end
-- ==== Proof.Frames.lean ====
/-
  The frames: the kernel ends with its arguments unchanged and every semaphore counter at zero, whatever the floats are;
  and the program as compiled is the same program text at machine floats.
-/
module

public import proofs.«01_k».proof.Proof.Launch
public import proofs.«01_k».proof.Proof.Gen.Kernel

@[expose] public section

set_option maxRecDepth 16384

noncomputable section

namespace Cert.Proof.Run

open Idealize.ShloMosaic Idealize.ShloMosaic.TcCoe Idealize.SL.Sem

section Ideal
open Cert.KernelIdeal Cert.KernelIdeal.Gen
variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (whole m ρ)
end Ideal

section Bits
open Cert.Kernel

attribute [local instance] Cert.Kernel.Gen.facts

theorem frame_Kernel (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame (F := Bits) m ρ
end Bits

end Cert.Proof.Run

end
-- ==== Proof.Reference.lean ====
/-
  The reference as launched: its five results are its payloads at the arguments, every block being a whole array.
-/
module

public import proofs.«01_k».proof.Proof.Gen.ReferenceIdeal.Value
public import Idealize.ShloMosaic.Lib.Pipeline.Value

@[expose] public section

set_option maxRecDepth 16384

noncomputable section

namespace Cert.Proof.Ref

open Cert.ReferenceIdeal Cert.ReferenceIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## The input blocks are the arrays -/

/-- The grid's one point. -/
abbrev t0 : Fin cfg0.N := ⟨0, by decide⟩

theorem blk0 (c : Dev nD) : iblk m c 0 t0 = V m c main_arg0 := by
  funext y
  exact congrArg (V m c main_arg0) (funext fun a => Fin.ext (by fin_cases a <;> show 0 + 1 * _ = _ <;> omega))
theorem blk1 (c : Dev nD) : iblk m c 1 t0 = V m c main_arg1 := by
  funext y
  exact congrArg (V m c main_arg1) (funext fun a => Fin.ext (by fin_cases a <;> show 0 + 1 * _ = _ <;> omega))
theorem blk2 (c : Dev nD) : iblk m c 2 t0 = V m c main_v0 := by
  funext y
  exact congrArg (V m c main_v0) (funext fun a => Fin.ext (by fin_cases a <;> show 0 + 1 * _ = _ <;> omega))
theorem blk3 (c : Dev nD) : iblk m c 3 t0 = V m c main_arg3 := by
  funext y
  exact congrArg (V m c main_arg3) (funext fun a => Fin.ext (by fin_cases a <;> show 0 + 1 * _ = _ <;> omega))
theorem blk4 (c : Dev nD) : iblk m c 4 t0 = V m c main_v1 := by
  funext y
  exact congrArg (V m c main_v1) (funext fun a => Fin.ext (by fin_cases a <;> show 0 + 1 * _ = _ <;> omega))
theorem blk5 (c : Dev nD) : iblk m c 5 t0 = V m c main_v2 := by
  funext y
  exact congrArg (V m c main_v2) (funext fun a => Fin.ext (by fin_cases a <;> show 0 + 1 * _ = _ <;> omega))

/-! ## Whole-array loads and stores -/

theorem z4 : (![0, 0, 0, 0] : Fin 4 → Nat) = fun _ => 0 := by decide
theorem z3 : (![0, 0, 0] : Fin 3 → Nat) = fun _ => 0 := by decide
theorem z2 : (![0, 0] : Fin 2 → Nat) = fun _ => 0 := by decide

section Out
variable (x0 : Vec F S16x2x128x7168 .fp8e4m3) (x1 : Vec F S16x2x128 .f32) (x2 : Vec F S1x7168 .f32)
  (x3 : Vec F S2x128x7168 .bf16) (x4 : Vec F S1x7168 .f32) (x5 : Vec F S1x16 .f32)

/-- The normalized rows before the quantiser. -/
def rows : FVec F S2x128x7168 .f32 := k0_pay3 x0 x1 x2 x3 x4
/-- The five results. -/
def res : FVec F S2x128x7168 .bf16 := k0_pay2 x0 x1 x2 x3
def amax : FVec F S1x1 .f32 := k0_pay5 (k0_pay4 x0 x1 x2 x3 x4)
def hist : FVec F S1x16 .f32 := k0_pay6 (k0_pay4 x0 x1 x2 x3 x4) (View.ld x5 r0_5)
def codes : FVec F S2x128x7168 .fp8e4m3 := k0_pay1 (k0_pay9 (k0_pay3 x0 x1 x2 x3 x4) x5) (Scalar.ofBits .f32 0xC3E00000#32)
def scale : FVec F S1x1 .f32 := k0_pay8 x5

theorem ld_all : View.ld x0 r0_0 = x0 ∧ View.ld x1 r0_1 = x1 ∧ View.ld x2 r0_2 = x2 ∧ View.ld x3 r0_3 = x3
    ∧ View.ld x4 r0_2 = x4 ∧ View.ld x5 r0_6 = x5 :=
  ⟨View.ld_unit_zero z4 _ _, View.ld_unit_zero z3 _ _, View.ld_unit_zero z2 _ _, View.ld_unit_zero z3 _ _,
    View.ld_unit_zero z2 _ _, View.ld_unit_zero z2 _ _⟩

theorem out6 : out0_6 x0 x1 x2 x3 x4 x5 = res x0 x1 x2 x3 := by
  obtain ⟨h0, h1, h2, h3, h4, h5⟩ := ld_all x0 x1 x2 x3 x4 x5
  unfold out0_6 res; rw [h0, h1, h2, h3]; exact View.canon_unit_zero z3 _ _
theorem out7 : out0_7 x0 x1 x2 x3 x4 x5 = amax x0 x1 x2 x3 x4 := by
  obtain ⟨h0, h1, h2, h3, h4, h5⟩ := ld_all x0 x1 x2 x3 x4 x5
  unfold out0_7 k0_pay10 amax; rw [h0, h1, h2, h3, h4]; exact View.canon_unit_zero z2 _ _
theorem out8 : out0_8 x0 x1 x2 x3 x4 x5 = hist x0 x1 x2 x3 x4 x5 := by
  obtain ⟨h0, h1, h2, h3, h4, h5⟩ := ld_all x0 x1 x2 x3 x4 x5
  unfold out0_8 k0_pay10 hist; rw [h0, h1, h2, h3, h4]; exact View.canon_unit_zero z2 _ _
theorem out9 : out0_9 x0 x1 x2 x3 x4 x5 = codes x0 x1 x2 x3 x4 x5 := by
  obtain ⟨h0, h1, h2, h3, h4, h5⟩ := ld_all x0 x1 x2 x3 x4 x5
  unfold out0_9 codes; rw [h0, h1, h2, h3, h4, h5]; exact View.canon_unit_zero z3 _ _
theorem out10 : out0_10 x0 x1 x2 x3 x4 x5 = scale x5 := by
  obtain ⟨h0, h1, h2, h3, h4, h5⟩ := ld_all x0 x1 x2 x3 x4 x5
  unfold out0_10 scale; rw [h5]; exact View.canon_unit_zero z2 _ _

end Out

/-! ## The results after the run -/

theorem arr6 (c : Dev nD) : (dats m 0 c).arrAt 6 cfg0.N = res (V m c main_arg0) (V m c main_arg1) (V m c main_v0) (V m c main_arg3) := by
  have hb := (Value.blocks6 m c t0 (flush0_6 t0)).trans (Value.flushed6 m c t0)
  rw [blk0, blk1, blk2, blk3, blk4, blk5, out6] at hb
  funext y
  have b := congrFun hb y
  refine (congrArg ((dats m 0 c).arrAt 6 cfg0.N) (funext fun a => Fin.ext ?_)).trans b
  fin_cases a <;> show _ = 0 + 1 * _ <;> omega
theorem arr7 (c : Dev nD) : (dats m 0 c).arrAt 7 cfg0.N = amax (V m c main_arg0) (V m c main_arg1) (V m c main_v0) (V m c main_arg3) (V m c main_v1) := by
  have hb := (Value.blocks7 m c t0 (flush0_7 t0)).trans (Value.flushed7 m c t0)
  rw [blk0, blk1, blk2, blk3, blk4, blk5, out7] at hb
  funext y
  have b := congrFun hb y
  refine (congrArg ((dats m 0 c).arrAt 7 cfg0.N) (funext fun a => Fin.ext ?_)).trans b
  fin_cases a <;> show _ = 0 + 1 * _ <;> omega
theorem arr8 (c : Dev nD) : (dats m 0 c).arrAt 8 cfg0.N = hist (V m c main_arg0) (V m c main_arg1) (V m c main_v0) (V m c main_arg3) (V m c main_v1) (V m c main_v2) := by
  have hb := (Value.blocks8 m c t0 (flush0_8 t0)).trans (Value.flushed8 m c t0)
  rw [blk0, blk1, blk2, blk3, blk4, blk5, out8] at hb
  funext y
  have b := congrFun hb y
  refine (congrArg ((dats m 0 c).arrAt 8 cfg0.N) (funext fun a => Fin.ext ?_)).trans b
  fin_cases a <;> show _ = 0 + 1 * _ <;> omega
theorem arr9 (c : Dev nD) : (dats m 0 c).arrAt 9 cfg0.N = codes (V m c main_arg0) (V m c main_arg1) (V m c main_v0) (V m c main_arg3) (V m c main_v1) (V m c main_v2) := by
  have hb := (Value.blocks9 m c t0 (flush0_9 t0)).trans (Value.flushed9 m c t0)
  rw [blk0, blk1, blk2, blk3, blk4, blk5, out9] at hb
  funext y
  have b := congrFun hb y
  refine (congrArg ((dats m 0 c).arrAt 9 cfg0.N) (funext fun a => Fin.ext ?_)).trans b
  fin_cases a <;> show _ = 0 + 1 * _ <;> omega
theorem arr10 (c : Dev nD) : (dats m 0 c).arrAt 10 cfg0.N = scale (V m c main_v2) := by
  have hb := (Value.blocks10 m c t0 (flush0_10 t0)).trans (Value.flushed10 m c t0)
  rw [blk0, blk1, blk2, blk3, blk4, blk5, out10] at hb
  funext y
  have b := congrFun hb y
  refine (congrArg ((dats m 0 c).arrAt 10 cfg0.N) (funext fun a => Fin.ext ?_)).trans b
  fin_cases a <;> show _ = 0 + 1 * _ <;> omega

/-- The reference run to its end: its five results, its arguments as launched. -/
theorem run : θ_run defs (onTc (τ := τ) (main (F := F))) ⟨m, fun _ => 0, ρ⟩ fun r => ∀ c : Dev nD,
      r.2.mem ((c.tc : Thread nD τ).loc main_v3_0) = res (V m c main_arg0) (V m c main_arg1) (V m c main_v0) (V m c main_arg3)
      ∧ r.2.mem ((c.tc : Thread nD τ).loc main_v3_1) = amax (V m c main_arg0) (V m c main_arg1) (V m c main_v0) (V m c main_arg3) (V m c main_v1)
      ∧ r.2.mem ((c.tc : Thread nD τ).loc main_v3_2) = hist (V m c main_arg0) (V m c main_arg1) (V m c main_v0) (V m c main_arg3) (V m c main_v1) (V m c main_v2)
      ∧ r.2.mem ((c.tc : Thread nD τ).loc main_v3_3) = codes (V m c main_arg0) (V m c main_arg1) (V m c main_v0) (V m c main_arg3) (V m c main_v1) (V m c main_v2)
      ∧ r.2.mem ((c.tc : Thread nD τ).loc main_v3_4) = scale (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, hk⟩ := h c
    exact ⟨h0.trans (arr6 m c), h1.trans (arr7 m c), h2.trans (arr8 m c), h3.trans (arr9 m c), h4.trans (arr10 m c), hk⟩)
    (Value.run_blocks m ρ)

end Cert.Proof.Ref

end
-- ==== Proof.Weights.lean ====
/-
  The weights the kernel spreads out, read at an entry: row `r` of the matrix holds the scales of its own token in the
  columns whose token number inside the group is `r`'s, and zero elsewhere.
-/
module

public import proofs.«01_k».proof.Proof.Body
public import Idealize.ShloMosaic.Lib.Pointwise
public import Idealize.ShloMosaic.Lib.Pointwise.IndexBridge

@[expose] public section

set_option maxRecDepth 16384

noncomputable section

namespace Cert.Proof.Val

open Cert.KernelIdeal Cert.KernelIdeal.Gen
open Idealize.ShloMosaic

/-- The shard of a column, by the program's floor division: over all 512 columns. -/
theorem shard_word (s : Fin 16) (k : Fin 512) :
    (select k0_pay61 (subi k0_pay60 (broadcast S16x512 1#32)) k0_pay60 : IVec S16x512 32) (ix2 s k) = BitVec.ofNat 32 (k.val / 32) := by
  pointwise [k0_pay60, k0_pay61]
  revert k
  decide +kernel

theorem word_eq16 : ∀ a b : Fin 16, BitVec.setWidth 32 (IntOp.cmpi CmpIPredicate.eq (BitVec.ofNat 32 a.val) (BitVec.ofNat 32 b.val))
    = if a.val = b.val then 1#32 else 0#32 := by decide +kernel

theorem word_eq32 : ∀ a b : Fin 32, IntOp.cmpi CmpIPredicate.eq (BitVec.ofNat 32 a.val) (BitVec.ofNat 32 b.val)
    = BitVec.ofBool (decide (a.val = b.val)) := by decide +kernel

/-- The indicator "column `k` belongs to shard `s`". -/
theorem spread_apply (s : Fin 16) (k : Fin 512) :
    k0_pay62 (F := Ideal) k0_pay60 k0_pay61 (ix2 s k) = if k.val / 32 = s.val then 1 else 0 := by
  have h := shard_word s k
  unfold k0_pay62
  pointwise
  pointwise at h
  rw [h, word_eq16 ⟨k.val / 32, by omega⟩ s]
  show ((((if k.val / 32 = s.val then 1#32 else 0#32 : BitVec 32).toInt : ℤ) : ℝ) : EReal) = _
  split <;> simp

/-- The program's floor remainder by 32 of a word. -/
def fmod (w : BitVec 32) : BitVec 32 :=
  Scalar.select
    (IntOp.andi
      (IntOp.xori
        (IntOp.cmpi CmpIPredicate.slt
          (IntOp.remsi ArithUnit.vector w (Scalar.select (Scalar.cmpi CmpIPredicate.eq 32#32 0#32) 1#32 32#32))
          0#32)
        (Scalar.cmpi CmpIPredicate.slt (Scalar.select (Scalar.cmpi CmpIPredicate.eq 32#32 0#32) 1#32 32#32) 0#32))
      (IntOp.cmpi CmpIPredicate.ne
        (IntOp.remsi ArithUnit.vector w (Scalar.select (Scalar.cmpi CmpIPredicate.eq 32#32 0#32) 1#32 32#32))
        0#32))
    (IntOp.addi
      (IntOp.remsi ArithUnit.vector w (Scalar.select (Scalar.cmpi CmpIPredicate.eq 32#32 0#32) 1#32 32#32))
      (Scalar.select (Scalar.cmpi CmpIPredicate.eq 32#32 0#32) 1#32 32#32))
    (IntOp.remsi ArithUnit.vector w (Scalar.select (Scalar.cmpi CmpIPredicate.eq 32#32 0#32) 1#32 32#32))

theorem fmod_word : ∀ k : Fin 512, fmod (BitVec.ofNat 32 k.val) = BitVec.ofNat 32 (k.val % 32) := by decide +kernel

/-- The mask "row and column name the same token inside a group". -/
theorem mask_apply (t : Fin 128) (k : Fin 512) :
    k0_pay63 (ix2 t k) = BitVec.ofBool (decide (t.val % 32 = k.val % 32)) := by
  pointwise [k0_pay63]
  show IntOp.cmpi CmpIPredicate.eq (fmod (BitVec.ofNat 32 t.val)) (fmod (BitVec.ofNat 32 k.val)) = _
  rw [fmod_word ⟨t.val, by omega⟩, fmod_word k]
  exact word_eq32 ⟨t.val % 32, by omega⟩ ⟨k.val % 32, by omega⟩

theorem pay64_apply (v : FVec Ideal S16x512 .bf16) (w : IVec S128x512 1) (S : Vec Ideal S16x1x128 .f32) (t : Fin 128) (k : Fin 512) :
    k0_pay64 v w S (ix2 t k) = if w (ix2 t k) = 1#1 then ∑ s : Fin 16, S (ix3 s 0 t) * v (ix2 s k) else 0 := by
  pointwise [k0_pay64]
  rfl

/-- One batch's block of weights at an entry. -/
theorem block_apply (S : Vec Ideal S16x1x128 .f32) (t : Fin 128) (k : Fin 512) :
    k0_pay64 (k0_pay62 (F := Ideal) k0_pay60 k0_pay61) k0_pay63 S (ix2 t k)
      = if t.val % 32 = k.val % 32 then S (ix3 ⟨k.val / 32, by omega⟩ 0 t) else 0 := by
  rw [pay64_apply, mask_apply]
  have e : (∑ s : Fin 16, S (ix3 s 0 t) * k0_pay62 (F := Ideal) k0_pay60 k0_pay61 (ix2 s k)) = S (ix3 ⟨k.val / 32, by omega⟩ 0 t) := by
    rw [Finset.sum_eq_single (⟨k.val / 32, by omega⟩ : Fin 16)]
    · rw [spread_apply, if_pos rfl]; exact mul_one _
    · intro s _ hs
      rw [spread_apply, if_neg (fun h => hs (Fin.ext h.symm))]; exact mul_zero _
    · intro h; exact absurd (Finset.mem_univ _) h
  rw [e]
  by_cases h : t.val % 32 = k.val % 32 <;> simp [h]

theorem pay65_eq : k0_pay65 (F := Ideal) = k0_pay64 := rfl

theorem lhsL_canon (S : Vec Ideal S16x2x128 .f32) : Run.lhsL S = View.canon
    [⟨Rect.unit (s := S256x512) ![128, 0] S128x512.size inb_S256x512_S128x512_128_0, k0_pay65 (k0_pay62 (F := Ideal) k0_pay60 k0_pay61) k0_pay63 (Run.bScales.view.readAt (Elt Ideal) (Rect.unit (s := S16x2x128) ![0, 1, 0] S16x1x128.size inb_S16x2x128_S16x1x128_0_1_0).toLoadRect S)⟩,
     ⟨Rect.unit (s := S256x512) ![0, 0] S128x512.size inb_S256x512_S128x512_0_0, k0_pay64 (k0_pay62 (F := Ideal) k0_pay60 k0_pay61) k0_pay63 (Run.bScales.view.readAt (Elt Ideal) (Rect.unit (s := S16x2x128) ![0, 0, 0] S16x1x128.size inb_S16x2x128_S16x1x128_0_0_0).toLoadRect S)⟩] :=
  Eq.trans (by unfold Run.lhsL; rfl) (View.read_writes_junk_eq_canon Run.bLhs.view _)

theorem slice0 (S : Vec Ideal S16x2x128 .f32) (s : Fin 16) (t : Fin 128) :
    Run.bScales.view.readAt (Elt Ideal) (Rect.unit (s := S16x2x128) ![0, 0, 0] S16x1x128.size inb_S16x2x128_S16x1x128_0_0_0).toLoadRect S (ix3 s 0 t)
      = S (ix3 s 0 t) := by
  rw [View.readAt_apply]
  refine congrArg S (funext fun a => Fin.ext ?_)
  fin_cases a
  · show 0 + 1 * s.val = s.val; omega
  · show 0 + 1 * 0 = 0; omega
  · show 0 + 1 * t.val = t.val; omega

theorem slice1 (S : Vec Ideal S16x2x128 .f32) (s : Fin 16) (t : Fin 128) :
    Run.bScales.view.readAt (Elt Ideal) (Rect.unit (s := S16x2x128) ![0, 1, 0] S16x1x128.size inb_S16x2x128_S16x1x128_0_1_0).toLoadRect S (ix3 s 0 t)
      = S (ix3 s 1 t) := by
  rw [View.readAt_apply]
  refine congrArg S (funext fun a => Fin.ext ?_)
  fin_cases a
  · show 0 + 1 * s.val = s.val; omega
  · show 1 + 1 * 0 = 1; omega
  · show 0 + 1 * t.val = t.val; omega

/-- The weights: row `r` is token `r % 128` of batch `r / 128`, column `k` is shard `k / 32` at token `k % 32` of the group. -/
theorem lhs_apply (S : Vec Ideal S16x2x128 .f32) (b : Fin 2) (t : Fin 128) (k : Fin 512) :
    Run.lhsL S (ix2 ⟨128 * b.val + t.val, by omega⟩ k)
      = if t.val % 32 = k.val % 32 then S (ix3 ⟨k.val / 32, by omega⟩ b t) else 0 := by
  rw [lhsL_canon]
  match b with
  | ⟨0, _⟩ =>
    rw [View.canon_cons_of_not_mem]
    · have e : (ix2 ⟨128 * 0 + t.val, by omega⟩ k : S256x512.Idx)
          = (Rect.unit (s := S256x512) ![0, 0] S128x512.size inb_S256x512_S128x512_0_0).emb (ix2 t k) := by
        funext a; fin_cases a <;> apply Fin.ext
        · show 128 * 0 + t.val = 0 + 1 * t.val; omega
        · show k.val = 0 + 1 * k.val; omega
      refine (congrArg _ e).trans ?_
      rw [View.canon_cons_emb, block_apply, slice0]
      rfl
    · intro h
      have h' : (ix2 ⟨128 * 0 + t.val, by omega⟩ k : S256x512.Idx) ∈ (Rect.unit (s := S256x512) ![128, 0] S128x512.size inb_S256x512_S128x512_128_0).set := h
      have h1 : 128 ≤ 128 * 0 + t.val := ((Rect.mem_set_unit.mp h') (0 : Fin 2)).1
      omega
  | ⟨1, _⟩ =>
    have e : (ix2 ⟨128 * 1 + t.val, by omega⟩ k : S256x512.Idx)
        = (Rect.unit (s := S256x512) ![128, 0] S128x512.size inb_S256x512_S128x512_128_0).emb (ix2 t k) := by
      funext a; fin_cases a <;> apply Fin.ext
      · show 128 * 1 + t.val = 128 + 1 * t.val; omega
      · show k.val = 0 + 1 * k.val; omega
    refine (congrArg _ e).trans ?_
    rw [View.canon_cons_emb, pay65_eq, block_apply, slice1]
    rfl

end Cert.Proof.Val

end
-- ==== Proof.Rows.lean ====
/-
  The root mean square of a row, and the normalized rows: the kernel adds the squares lane by lane over 56 pieces of 128
  columns and sums the lanes at the end; that is the sum over the 7168 columns.
-/
module

public import proofs.«01_k».proof.Proof.Spec
public import proofs.«01_k».proof.Proof.Reference
public import Idealize.ShloMosaic.Lib.Pointwise
public import Idealize.ShloMosaic.Lib.Pointwise.IndexBridge

@[expose] public section

set_option maxRecDepth 16384

noncomputable section

namespace Cert.Proof.Val

open Cert.KernelIdeal Cert.KernelIdeal.Gen
open Idealize.ShloMosaic

/-- One slab's squares added to the lanes. -/
theorem pay4_apply (w : Vec Ideal S32x512 .bf16) (A : FVec Ideal S32x128 .f32) (P : Vec Ideal S1x16x32x1024 .fp8e4m3) (B : Vec Ideal S1x1024 .f32)
    (X : Vec Ideal S1x32x1024 .bf16) (r : Fin 32) (l : Fin 128) :
    k0_pay4 w A P B X (ix2 r l) = A (ix2 r l) + ∑ q : Fin 8, k0_pay2 w P B X (ix2 r ⟨q.val * 128 + l.val, by omega⟩) * k0_pay2 w P B X (ix2 r ⟨q.val * 128 + l.val, by omega⟩) := by
  unfold k0_pay4
  generalize k0_pay2 w P B X = R
  rw [Fin.sum_univ_eight]
  pointwise
  simp only [add_assoc]

theorem pay3_apply (w : Vec Ideal S32x512 .bf16) (P : Vec Ideal S1x16x32x1024 .fp8e4m3) (B : Vec Ideal S1x1024 .f32)
    (X : Vec Ideal S1x32x1024 .bf16) (r : Fin 32) (d : Fin 1024) :
    k0_pay3 w P B X (ix3 0 r d) = k0_pay2 w P B X (ix2 r d) := by
  pointwise [k0_pay3]

theorem pay1_apply (r : Fin 32) (l : Fin 128) : k0_pay1 (F := Ideal) (ix2 r l) = 0 := by
  pointwise [k0_pay1]

theorem finish_apply (T : FVec Ideal S32x128 .f32) (r : Fin 32) :
    Run.finishW T (ix2 r 0) = FloatOps.rsqrt (F := Ideal) (φ := .f32) (FloatOps.divf (F := Ideal) (φ := .f32) (∑ l : Fin 128, T (ix2 r l)) (Ideal.ofBits .f32 0x45E00000#32) + Ideal.ofBits .f32 0x358637BD#32) := by
  pointwise [Run.finishW]

theorem rows_apply (P : Vec Ideal S16x2x128x7168 .fp8e4m3) (S : Vec Ideal S16x2x128 .f32) (B : Vec Ideal S1x7168 .f32)
    (X : Vec Ideal S2x128x7168 .bf16) (G : Vec Ideal S1x7168 .f32) (b : Fin 2) (t : Fin 128) (d : Fin 7168) :
    Ref.rows P S B X G (ix3 b t d) = Ref.res P S B X (ix3 b t d)
      * FloatOps.rsqrt (F := Ideal) (φ := .f32) (FloatOps.divf (F := Ideal) (φ := .f32) (∑ k : Fin 7168, Ref.res P S B X (ix3 b t k) * Ref.res P S B X (ix3 b t k)) (Ideal.ofBits .f32 0x45E00000#32) + Ideal.ofBits .f32 0x358637BD#32)
      * G (ix2 0 d) := by
  unfold Ref.rows Ref.res Cert.ReferenceIdeal.Gen.k0_pay3
  generalize Cert.ReferenceIdeal.Gen.k0_pay2 P S B X = R
  pointwise

theorem pay40_apply (iv : FVec Ideal S32x1 .f32) (R : Vec Ideal S1x32x1024 .bf16) (G : Vec Ideal S1x1024 .f32) (r : Fin 32) (d : Fin 1024) :
    k0_pay40 iv R G (ix2 r d) = R (ix3 0 r d) * iv (ix2 r 0) * G (ix2 0 d) := by
  pointwise [k0_pay40]

/-- The columns cut into slabs, pieces and lanes. -/
theorem sum_cols (f : Fin 7168 → EReal) :
    (∑ l : Fin 128, ∑ i : Fin 7, ∑ q : Fin 8, f ⟨1024 * i.val + (q.val * 128 + l.val), by omega⟩) = ∑ k : Fin 7168, f k := by
  rw [Fin.sum_univ_tiles 7 1024 rfl, Finset.sum_comm]
  refine Finset.sum_congr rfl fun i _ => ?_
  rw [Fin.sum_univ_tiles 8 128 rfl, Finset.sum_comm]
  refine Finset.sum_congr rfl fun q _ => Finset.sum_congr rfl fun l _ => ?_
  exact congrArg f (Fin.ext (by show 1024 * i.val + (q.val * 128 + l.val) = i.val * 1024 + (q.val * 128 + l.val); omega))

/-- The carried sum of squares: seven slabs of eight pieces. -/
theorem ssq_apply (w : Vec Ideal S32x512 .bf16) (P : Fin 7 → Vec Ideal S1x16x32x1024 .fp8e4m3) (B : Fin 7 → Vec Ideal S1x1024 .f32)
    (X : Fin 7 → Vec Ideal S1x32x1024 .bf16) (r : Fin 32) (l : Fin 128) :
    Run.ssqW w P B X (ix2 r l) = ∑ i : Fin 7, ∑ q : Fin 8, k0_pay2 w (P i) (B i) (X i) (ix2 r ⟨q.val * 128 + l.val, by omega⟩)
      * k0_pay2 w (P i) (B i) (X i) (ix2 r ⟨q.val * 128 + l.val, by omega⟩) := by
  unfold Run.ssqW
  rw [Fin.sum_univ_seven]
  simp only [pay4_apply, pay1_apply, zero_add]

/-- The reciprocal root mean square of a row, from the residual slabs `R`. -/
theorem invS_apply (I : Run.Inp Ideal) (g : Fin 8) (r : Fin 32) (f : Fin 7168 → EReal)
    (hf : ∀ (i : Fin 7) (d : Fin 1024), Run.resS I g i (ix3 0 r d) = f (Run.cOf i d)) :
    Run.invS I g (ix2 r 0) = FloatOps.rsqrt (F := Ideal) (φ := .f32) (FloatOps.divf (F := Ideal) (φ := .f32) (∑ k : Fin 7168, f k * f k) (Ideal.ofBits .f32 0x45E00000#32) + Ideal.ofBits .f32 0x358637BD#32) := by
  unfold Run.invS
  rw [finish_apply]
  have h2 : ∀ (i : Fin 7) (d : Fin 1024), k0_pay2 (Run.lhsS I g) (Run.pS I g i) (Run.rowS I.B i) (Run.xS I g i) (ix2 r d) = f (Run.cOf i d) := by
    intro i d
    rw [← hf i d]
    exact (pay3_apply _ _ _ _ r d).symm
  have hs : (∑ l : Fin 128, Run.ssqW (Run.lhsS I g) (Run.pS I g) (Run.rowS I.B) (Run.xS I g) (ix2 r l)) = ∑ k : Fin 7168, f k * f k := by
    rw [← sum_cols (fun k => f k * f k)]
    refine Finset.sum_congr rfl fun l _ => ?_
    rw [ssq_apply]
    simp only [h2]
  rw [hs]

/-- A normalized slab at an entry is the reference's, where the residual slabs are the reference's. -/
theorem y_apply (I : Run.Inp Ideal) (P : Vec Ideal S16x2x128x7168 .fp8e4m3) (S : Vec Ideal S16x2x128 .f32)
    (hR : ∀ (g : Fin 8) (i : Fin 7) (r : Fin 32) (d : Fin 1024),
      Run.resS I g i (ix3 0 r d) = Ref.res P S I.B I.XX (ix3 (Run.bOf g) (Run.tOf g r) (Run.cOf i d)))
    (g : Fin 8) (i : Fin 7) (r : Fin 32) (d : Fin 1024) :
    k0_pay40 (Run.invS I g) (Run.resS I g i) (Run.rowS I.G i) (ix2 r d)
      = Ref.rows P S I.B I.XX I.G (ix3 (Run.bOf g) (Run.tOf g r) (Run.cOf i d)) := by
  rw [pay40_apply, rows_apply, hR, invS_apply I g r (fun k => Ref.res P S I.B I.XX (ix3 (Run.bOf g) (Run.tOf g r) k)) (fun i d => hR g i r d)]
  refine congrArg₂ (· * ·) rfl ?_
  unfold Run.rowS
  rw [ix2_eq_valueIdx, ix2_eq_valueIdx]

end Cert.Proof.Val

end
-- ==== Proof.Residual.lean ====
/-
  The residual: each entry the kernel stores is the reference's, the sum over the shards being taken by one product with
  the spread-out weights.
-/
module

public import proofs.«01_k».proof.Proof.Weights
public import proofs.«01_k».proof.Proof.Rows

@[expose] public section

set_option maxRecDepth 16384

noncomputable section

namespace Cert.Proof.Val

open Cert.KernelIdeal Cert.KernelIdeal.Gen
open Idealize.ShloMosaic

theorem pay2_apply (w : Vec Ideal S32x512 .bf16) (P : Vec Ideal S1x16x32x1024 .fp8e4m3) (B : Vec Ideal S1x1024 .f32)
    (X : Vec Ideal S1x32x1024 .bf16) (r : Fin 32) (d : Fin 1024) :
    k0_pay2 w P B X (ix2 r d) = (∑ k : Fin 512, w (ix2 r k) * P (ix4 0 ⟨k.val / 32, by omega⟩ ⟨k.val % 32, by omega⟩ d)) + B (ix2 0 d) + X (ix3 0 r d) := by
  pointwise [k0_pay2]

theorem ref_apply (P : Vec Ideal S16x2x128x7168 .fp8e4m3) (S : Vec Ideal S16x2x128 .f32) (B : Vec Ideal S1x7168 .f32)
    (X : Vec Ideal S2x128x7168 .bf16) (b : Fin 2) (t : Fin 128) (d : Fin 7168) :
    Ref.res P S B X (ix3 b t d) = (∑ s : Fin 16, P (ix4 s b t d) * S (ix3 s b t)) + B (ix2 0 d) + X (ix3 b t d) := by
  pointwise [Ref.res, Cert.ReferenceIdeal.Gen.k0_pay2]

/-- The long contraction has one nonzero term per shard. -/
theorem sum_diag (r : Fin 32) (f : Fin 16 → EReal) (g : Fin 16 → Fin 32 → EReal) :
    (∑ k : Fin 512, (if r.val = k.val % 32 then f ⟨k.val / 32, by omega⟩ else 0) * g ⟨k.val / 32, by omega⟩ ⟨k.val % 32, by omega⟩)
      = ∑ s : Fin 16, g s r * f s := by
  rw [Fin.sum_univ_tiles 16 32 rfl]
  refine Finset.sum_congr rfl fun s _ => ?_
  rw [Finset.sum_eq_single r]
  · have e1 : (⟨(s.val * 32 + r.val) / 32, by omega⟩ : Fin 16) = s := Fin.ext (by show (s.val * 32 + r.val) / 32 = s.val; omega)
    have e2 : (⟨(s.val * 32 + r.val) % 32, by omega⟩ : Fin 32) = r := Fin.ext (by show (s.val * 32 + r.val) % 32 = r.val; omega)
    rw [if_pos (by show r.val = (s.val * 32 + r.val) % 32; omega)]
    simp only [e1, e2]
    exact mul_comm _ _
  · intro t _ ht
    rw [if_neg (fun h => ht (Fin.ext (by have h' : r.val = (s.val * 32 + t.val) % 32 := h; omega)))]
    exact zero_mul _
  · intro h; exact absurd (Finset.mem_univ _) h

/-- One slab of the residual at an entry, in the words of the whole arrays. -/
theorem resS_of (I : Run.Inp Ideal) (S : Vec Ideal S16x2x128 .f32)
    (hL : ∀ (b : Fin 2) (t : Fin 128) (k : Fin 512), I.L (ix2 ⟨128 * b.val + t.val, by omega⟩ k)
      = if t.val % 32 = k.val % 32 then S (ix3 ⟨k.val / 32, by omega⟩ b t) else 0)
    (g : Fin 8) (i : Fin 7) (r : Fin 32) (d : Fin 1024) :
    Run.resS I g i (ix3 0 r d) = Ref.res I.XP S I.B I.XX (ix3 (Run.bOf g) (Run.tOf g r) (Run.cOf i d)) := by
  unfold Run.resS
  rw [pay3_apply, pay2_apply, ref_apply]
  have hw : ∀ k : Fin 512, Run.lhsS I g (ix2 r k)
      = if r.val = k.val % 32 then S (ix3 ⟨k.val / 32, by omega⟩ (Run.bOf g) (Run.tOf g r)) else 0 := by
    intro k
    have h := hL (Run.bOf g) (Run.tOf g r) k
    have hr : (Run.tOf g r).val % 32 = r.val := by show (32 * (g.val % 4) + r.val) % 32 = r.val; omega
    rw [hr] at h
    rw [← h]
    unfold Run.lhsS
    refine congrArg I.L ?_
    refine (ix2_eq_valueIdx ⟨32 * g.val + r.val, by omega⟩ k).symm.trans ?_
    rw [ix2_inj]
    exact ⟨Fin.ext (by show 32 * g.val + r.val = 128 * (g.val / 4) + (32 * (g.val % 4) + r.val); omega), rfl⟩
  have hs := sum_diag r (fun s => S (ix3 s (Run.bOf g) (Run.tOf g r))) (fun s t => I.XP (ix4 s (Run.bOf g) (Run.tOf g t) (Run.cOf i d)))
  have hk : (∑ k : Fin 512, Run.lhsS I g (ix2 r k)
      * Run.pS I g i (ix4 0 ⟨k.val / 32, by omega⟩ ⟨k.val % 32, by omega⟩ d))
      = ∑ s : Fin 16, I.XP (ix4 s (Run.bOf g) (Run.tOf g r) (Run.cOf i d)) * S (ix3 s (Run.bOf g) (Run.tOf g r)) := by
    rw [← hs]
    refine Finset.sum_congr rfl fun k _ => ?_
    rw [hw k]
    unfold Run.pS
    refine congrArg₂ (· * ·) rfl (congrArg I.XP ?_)
    exact (ix4_eq_valueIdx _ _ _ _).symm
  rw [hk]
  unfold Run.rowS Run.xS
  refine congrArg₂ (· + ·) (congrArg₂ (· + ·) rfl (congrArg I.B (ix2_eq_valueIdx _ _).symm)) (congrArg I.XX (ix3_eq_valueIdx _ _ _).symm)

/-- RESULT 1: the residual as a whole array. -/
theorem res_eq (I : Run.Inp Ideal) (P : Vec Ideal S16x2x128x7168 .fp8e4m3) (S : Vec Ideal S16x2x128 .f32)
    (hR : ∀ (g : Fin 8) (i : Fin 7) (r : Fin 32) (d : Fin 1024),
      Run.resS I g i (ix3 0 r d) = Ref.res P S I.B I.XX (ix3 (Run.bOf g) (Run.tOf g r) (Run.cOf i d))) :
    Run.Gres I = Ref.res P S I.B I.XX := by
  funext y
  idx_vars y
  show Run.resS _ (Run.gOf y0 y1) (Run.iOf y2) (ValueIdx.ix3 0 (Run.rOf y1) (Run.dOf y2)) = _
  rw [← ix3_eq_valueIdx, hR]
  refine congrArg _ ?_
  rw [ix3_inj]
  refine ⟨Fin.ext ?_, Fin.ext ?_, Fin.ext ?_⟩
  · show (4 * y0.val + y1.val / 32) / 4 = y0.val; omega
  · show 32 * ((4 * y0.val + y1.val / 32) % 4) + y1.val % 32 = y1.val; omega
  · show 1024 * (y2.val / 1024) + y2.val % 1024 = y2.val; omega

end Cert.Proof.Val

end
-- ==== Proof.Maximum.lean ====
/-
  The absolute maximum: the kernel's running maximum over lanes, started at zero, against the reference's maximum over the
  whole array, started at minus infinity.
-/
module

public import proofs.«01_k».proof.Proof.Rows
public import proofs.«01_k».proof.Proof.Body

@[expose] public section

set_option maxRecDepth 16384

noncomputable section

namespace Cert.Proof.Val

open Cert.KernelIdeal Cert.KernelIdeal.Gen
open Idealize.ShloMosaic

/-- The start of a maximum is below everything. -/
theorem neg_inf : Ideal.ofBits .f32 0xFF800000#32 = (⊥ : EReal) := by
  simp [Ideal.ofBits, Ideal.ieee]

/-- The last step's maximum over rows and lanes, by its upper bounds. -/
theorem pay72_le (A : Vec Ideal S32x128 .f32) (j : S1x1.Idx) (z : EReal) :
    k0_pay72 A j ≤ z ↔ ∀ (r : Fin 32) (l : Fin 128), A (ix2 r l) ≤ z := by
  pointwise [k0_pay72]
  rw [Finset.fold_max_le, neg_inf]
  constructor
  · intro h r l
    exact h.2 (r, l) (Finset.mem_univ _)
  · intro h
    exact ⟨bot_le, fun x _ => h x.1 x.2⟩

theorem refmax_eq (P : Vec Ideal S16x2x128x7168 .fp8e4m3) (S : Vec Ideal S16x2x128 .f32) (B : Vec Ideal S1x7168 .f32)
    (X : Vec Ideal S2x128x7168 .bf16) (G : Vec Ideal S1x7168 .f32) (j : S1x1.Idx) :
    Ref.amax P S B X G j = Finset.fold max (Ideal.ofBits .f32 0xFF800000#32)
      (fun x : ReferenceIdeal.S1x2x128x7168.Idx => FloatOps.absf (F := Ideal) (φ := .f32) (Ref.rows P S B X G (ix3 (x 1) (x 2) (x 3))))
      {i | ReferenceIdeal.Gen.reduces_S1x2x128x7168_S1.drop i = ix1 0} := by
  unfold Ref.amax Ref.rows Cert.ReferenceIdeal.Gen.k0_pay5 Cert.ReferenceIdeal.Gen.k0_pay4
  generalize Cert.ReferenceIdeal.Gen.k0_pay3 P S B X G = R
  pointwise

/-- The reference's maximum, by its upper bounds. -/
theorem refmax_le (P : Vec Ideal S16x2x128x7168 .fp8e4m3) (S : Vec Ideal S16x2x128 .f32) (B : Vec Ideal S1x7168 .f32)
    (X : Vec Ideal S2x128x7168 .bf16) (G : Vec Ideal S1x7168 .f32) (j : S1x1.Idx) (z : EReal) :
    Ref.amax P S B X G j ≤ z ↔ ∀ (b : Fin 2) (t : Fin 128) (d : Fin 7168), FloatOps.absf (F := Ideal) (φ := .f32) (Ref.rows P S B X G (ix3 b t d)) ≤ z := by
  rw [refmax_eq, Finset.fold_max_le, neg_inf]
  constructor
  · intro h b t d
    refine h.2 (ix4 0 b t d) ?_
    rw [Finset.mem_filter]
    refine ⟨Finset.mem_univ _, ?_⟩
    funext a
    fin_cases a
    exact Subsingleton.elim (α := Fin 1) _ _
  · intro h
    exact ⟨bot_le, fun x _ => h _ _ _⟩

/-- One slab's step of the running maximum, by its upper bounds. -/
theorem maxW_le (a : FVec Ideal S32x128 .f32) (y : FVec Ideal S32x1024 .f32) (r : Fin 32) (l : Fin 128) (z : EReal) :
    Run.maxW a y (ix2 r l) ≤ z ↔ a (ix2 r l) ≤ z ∧ ∀ q : Fin 8, y (ix2 r ⟨q.val * 128 + l.val, by omega⟩) ≤ z := by
  have h : Run.maxW a y (ix2 r l) = max (max (max (max (max (max (max (max (a (ix2 r l)) (y (ix2 r ⟨0 * 128 + l.val, by omega⟩))) (y (ix2 r ⟨1 * 128 + l.val, by omega⟩))) (y (ix2 r ⟨2 * 128 + l.val, by omega⟩)))
      (y (ix2 r ⟨3 * 128 + l.val, by omega⟩))) (y (ix2 r ⟨4 * 128 + l.val, by omega⟩))) (y (ix2 r ⟨5 * 128 + l.val, by omega⟩))) (y (ix2 r ⟨6 * 128 + l.val, by omega⟩))) (y (ix2 r ⟨7 * 128 + l.val, by omega⟩)) := by
    pointwise [Run.maxW]
  rw [h]
  simp only [max_le_iff, and_assoc]
  refine and_congr Iff.rfl ?_
  constructor
  · rintro ⟨h0, h1, h2, h3, h4, h5, h6, h7⟩ q
    fin_cases q <;> assumption
  · intro h
    exact ⟨h 0, h 1, h 2, h 3, h 4, h 5, h 6, h 7⟩

/-- Seven slabs' steps. -/
theorem amaxW_le (iv : FVec Ideal S32x1 .f32) (R : Fin 7 → Vec Ideal S1x32x1024 .f32) (G : Fin 7 → Vec Ideal S1x1024 .f32)
    (a : FVec Ideal S32x128 .f32) (r : Fin 32) (l : Fin 128) (z : EReal) :
    Run.amaxW iv R G a (ix2 r l) ≤ z ↔ a (ix2 r l) ≤ z ∧ ∀ (i : Fin 7) (q : Fin 8),
      FloatOps.absf (F := Ideal) (φ := .f32) (k0_pay40 iv (R i) (G i) (ix2 r ⟨q.val * 128 + l.val, by omega⟩)) ≤ z := by
  have ha : ∀ (v : FVec Ideal S32x1024 .f32) (x : S32x1024.Idx), absf v x = FloatOps.absf (F := Ideal) (φ := .f32) (v x) := fun _ _ => rfl
  unfold Run.amaxW
  simp only [maxW_le, and_assoc, ha]
  refine and_congr Iff.rfl ?_
  constructor
  · rintro ⟨h0, h1, h2, h3, h4, h5, h6⟩ i
    fin_cases i <;> assumption
  · intro h
    exact ⟨h 0, h 1, h 2, h 3, h 4, h 5, h 6⟩

/-- The running maximum after `n` groups. -/
theorem amaxS_le (I : Run.Inp Ideal) (r : Fin 32) (l : Fin 128) (z : EReal) (n : ℕ) (hn : n ≤ 8) :
    Run.amaxS I n (ix2 r l) ≤ z ↔ 0 ≤ z ∧ ∀ (g : Fin 8), g.val < n → ∀ (i : Fin 7) (q : Fin 8),
      FloatOps.absf (F := Ideal) (φ := .f32) (k0_pay40 (Run.invS I g) (Run.resS I g i) (Run.rowS I.G i) (ix2 r ⟨q.val * 128 + l.val, by omega⟩)) ≤ z := by
  induction n with
  | zero =>
    have h0 : Run.amaxS I 0 (ix2 r l) = 0 := Ideal.ofBits_zero_f32
    rw [h0]
    exact ⟨fun h => ⟨h, fun g hg => absurd hg (Nat.not_lt_zero _)⟩, fun h => h.1⟩
  | succ n ih =>
    rw [Run.amaxS_succ I ⟨n, by omega⟩, amaxW_le, ih (by omega), and_assoc]
    refine and_congr Iff.rfl ?_
    constructor
    · rintro ⟨h1, h2⟩ g hg i q
      rcases Nat.lt_succ_iff_lt_or_eq.mp hg with h | h
      · exact h1 g h i q
      · have hg' : g = ⟨n, by omega⟩ := Fin.ext h
        rw [hg']
        exact h2 i q
    · intro h
      exact ⟨fun g hg => h g (Nat.lt_succ_of_lt hg), h ⟨n, by omega⟩ (Nat.lt_succ_self n)⟩

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- The kernel's maximum over the whole array is the reference's. -/
theorem pay72_eq (I : Run.Inp Ideal) (P : Vec Ideal S16x2x128x7168 .fp8e4m3) (S : Vec Ideal S16x2x128 .f32)
    (hY : ∀ (g : Fin 8) (i : Fin 7) (r : Fin 32) (d : Fin 1024),
      k0_pay40 (Run.invS I g) (Run.resS I g i) (Run.rowS I.G i) (ix2 r d)
        = Ref.rows P S I.B I.XX I.G (ix3 (Run.bOf g) (Run.tOf g r) (Run.cOf i d))) :
    k0_pay72 (Run.amaxS I 8) = Ref.amax P S I.B I.XX I.G := by
  funext j
  refine eq_of_forall_ge_iff fun z => ?_
  rw [pay72_le, refmax_le]
  simp only [amaxS_le I _ _ z 8 le_rfl, hY]
  constructor
  · intro h b t d
    have h1 := (h (Run.rOf t) ⟨d.val % 128, by omega⟩).2 (Run.gOf b t) (Fin.isLt _) (Run.iOf d) ⟨d.val % 1024 / 128, by omega⟩
    have hb : Run.bOf (Run.gOf b t) = b := Fin.ext (by show (4 * b.val + t.val / 32) / 4 = b.val; omega)
    have ht : Run.tOf (Run.gOf b t) (Run.rOf t) = t := Fin.ext (by show 32 * ((4 * b.val + t.val / 32) % 4) + t.val % 32 = t.val; omega)
    have hd : ∀ h, Run.cOf (Run.iOf d) ⟨d.val % 1024 / 128 * 128 + d.val % 128, h⟩ = d := fun _ => Fin.ext (by
      show 1024 * (d.val / 1024) + (d.val % 1024 / 128 * 128 + d.val % 128) = d.val; omega)
    rw [hb, ht, hd] at h1
    exact h1
  · intro h r l
    exact ⟨le_trans (absf_nonneg _) (h 0 0 0), fun g _ i q => h _ _ _⟩

/-- RESULT 2: the absolute maximum. -/
theorem amax_eq (I : Run.Inp Ideal) (A : Vec Ideal S1x1 .f32) (h : k0_pay72 (Run.amaxS I 8) = A) : Run.amaxOut I = A := by
  unfold Run.amaxOut
  rw [h]
  funext j
  idx_vars j
  pointwise [k0_pay73]

/-- RESULT 3: the new history, the old one moved by one place and the maximum put last. -/
theorem hist_eq (I : Run.Inp Ideal) (P : Vec Ideal S16x2x128x7168 .fp8e4m3) (S : Vec Ideal S16x2x128 .f32) (H : Vec Ideal S1x16 .f32)
    (h : k0_pay72 (Run.amaxS I 8) = Ref.amax P S I.B I.XX I.G) : Run.histOut I H = Ref.hist P S I.B I.XX I.G H := by
  unfold Run.histOut Ref.hist Cert.ReferenceIdeal.Gen.k0_pay6
  rw [h]
  unfold Ref.amax
  generalize Cert.ReferenceIdeal.Gen.k0_pay5 _ = A
  have e : Run.bHist.view.readAt (Elt Ideal) (Rect.unit (s := S1x16) ![0, 1] S1x15.size inb_S1x16_S1x15_0_1).toLoadRect H
      = View.ld H Cert.ReferenceIdeal.Gen.r0_5 := by
    funext x
    rfl
  rw [e]
  generalize View.ld H Cert.ReferenceIdeal.Gen.r0_5 = B
  have h1 : ∀ x : FVec Ideal S1x15 .f32, shapeCast S1x15 x ReferenceIdeal.Gen.shapeCasts_S1x15_S1x15 = x := fun x =>
    funext fun j => congrArg x (Shape.reshapeEquiv_self _ j)
  have h2 : ∀ x : FVec Ideal S1x16 .f32, shapeCast S1x16 x shapeCasts_S1x16_S1x16 = x := fun x =>
    funext fun j => congrArg x (Shape.reshapeEquiv_self _ j)
  unfold k0_pay74
  refine (h2 _).trans ?_
  exact congrArg (fun b => concatenate S1x16 1 [⟨S1x15, b⟩, ⟨S1x1, A⟩] concatenates_S1x15_S1x1_S1x16_d1) (h1 B).symm

end Cert.Proof.Val

end
-- ==== Proof.Powers.lean ====
/-
  Powers of two in the binary32 format: what the words with an empty significand denote, and the two ways of finding the
  exponent of a magnitude - counting the thresholds it reaches, and taking the least exponent whose power exceeds it.
-/
module

public import proofs.«01_k».proof.Proof.Rows

@[expose] public section

set_option maxRecDepth 16384

noncomputable section

namespace Cert.Proof.Val

open Idealize.ShloMosaic

/-! ## Words -/

theorem word_fields : ∀ n : Fin 256, ((BitVec.ofNat 32 (n.val * 2 ^ 23)).extractLsb' (8 + 23) 1 == 1#1) = false
    ∧ ((BitVec.ofNat 32 (n.val * 2 ^ 23)).extractLsb' 23 8).toNat = n.val
    ∧ ((BitVec.ofNat 32 (n.val * 2 ^ 23)).extractLsb' 0 23).toNat = 0 := by decide +kernel

/-- The word with exponent field `n` and an empty significand denotes a power of two. -/
theorem pow_bits (n : Fin 256) (h0 : n.val ≠ 0) (h1 : n.val ≠ 255) :
    Ideal.ofBits .f32 (BitVec.ofNat 32 (n.val * 2 ^ 23)) = (((2 : ℝ) ^ ((n.val : ℤ) - 127) : ℝ) : EReal) := by
  obtain ⟨hs, he, hf⟩ := word_fields n
  show Ideal.ieee 8 23 (BitVec.ofNat 32 (n.val * 2 ^ 23)) = _
  unfold Ideal.ieee
  simp only [hs, he, hf]
  rw [if_neg (by norm_num; exact h1), if_neg h0]
  refine congrArg _ ?_
  have h2 : ((2 ^ 23 + 0 : ℕ) : ℝ) = (2 : ℝ) ^ (23 : ℤ) := by norm_num
  rw [h2]
  simp only [Bool.false_eq_true, if_false, one_mul]
  rw [← zpow_add₀ (by norm_num : (2 : ℝ) ≠ 0)]
  congr 1
  ring

/-- The all-ones exponent field is the infinity. -/
theorem top_bits : Ideal.ofBits .f32 (BitVec.ofNat 32 (255 * 2 ^ 23)) = (⊤ : EReal) := by
  obtain ⟨hs, he, hf⟩ := word_fields 255
  show Ideal.ieee 8 23 (BitVec.ofNat 32 (255 * 2 ^ 23)) = _
  unfold Ideal.ieee
  have he' : ((BitVec.ofNat 32 (255 * 2 ^ 23)).extractLsb' 23 8).toNat = 255 := he
  have hs' : ((BitVec.ofNat 32 (255 * 2 ^ 23)).extractLsb' (8 + 23) 1 == 1#1) = false := hs
  have hf' : ((BitVec.ofNat 32 (255 * 2 ^ 23)).extractLsb' 0 23).toNat = 0 := hf
  simp only [hs', he', hf']
  norm_num

theorem thr_word : ∀ k : Fin 255, IntOp.shli ArithUnit.vector (IntOp.addi (BitVec.ofNat 32 k.val) 1#32) 23#32
    = BitVec.ofNat 32 ((k.val + 1) * 2 ^ 23) := by decide +kernel

/-- Counting the thresholds up to `f` gives `f`. -/
theorem count_word : ∀ f : Fin 256, Finset.fold IntOp.addi (0#32)
    (fun x : Fin 255 => BitVec.setWidth 32 (BitVec.ofBool (decide (x.val + 1 ≤ f.val)))) Finset.univ = BitVec.ofNat 32 f.val := by
  decide +kernel

theorem exp_word : ∀ k : Fin 256, (IntOp.subi (BitVec.ofNat 32 k.val) 128#32).toInt = (k.val : ℤ) - 128 := by decide +kernel

/-! ## Thresholds -/

/-- A threshold is a power of two, or the infinity. -/
theorem thr_le (x : ℝ) (k : Fin 255) :
    Ideal.ofBits .f32 (IntOp.shli ArithUnit.vector (IntOp.addi (BitVec.ofNat 32 k.val) 1#32) 23#32) ≤ (x : EReal)
      ↔ k.val ≠ 254 ∧ (2 : ℝ) ^ ((k.val : ℤ) - 126) ≤ x := by
  rw [thr_word]
  by_cases h : k.val = 254
  · have ht : Ideal.ofBits .f32 (BitVec.ofNat 32 ((k.val + 1) * 2 ^ 23)) = (⊤ : EReal) := by rw [h]; exact top_bits
    rw [ht]
    simp [h]
  · have hp := pow_bits ⟨k.val + 1, by omega⟩ (by simp) (by simpa using h)
    have hp' : Ideal.ofBits .f32 (BitVec.ofNat 32 ((k.val + 1) * 2 ^ 23)) = (((2 : ℝ) ^ ((k.val : ℤ) - 126) : ℝ) : EReal) := by
      rw [show ((k.val : ℤ) - 126) = (((k.val + 1 : ℕ) : ℤ) - 127) by push_cast; ring]
      exact hp
    rw [hp', EReal.coe_le_coe_iff]
    simp [h]

/-- The count of the thresholds which `x` reaches. -/
def count (a : EReal) : BitVec 32 :=
  Finset.fold IntOp.addi (0#32)
    (fun x : Fin 255 => BitVec.setWidth 32 (BitVec.ofBool (decide
      (Ideal.ofBits FTy.f32 (IntOp.shli ArithUnit.vector (IntOp.addi (BitVec.ofNat 32 x.val) 1#32) 23#32) ≤ a)))) Finset.univ

theorem count_of (x : ℝ) (f : Fin 256) (h : ∀ k : Fin 255, (k.val ≠ 254 ∧ (2 : ℝ) ^ ((k.val : ℤ) - 126) ≤ x) ↔ k.val + 1 ≤ f.val) :
    count (x : EReal) = BitVec.ofNat 32 f.val := by
  rw [← count_word f]
  unfold count
  refine congrArg (fun g => Finset.fold IntOp.addi (0#32) g Finset.univ) (funext fun k => ?_)
  exact congrArg (fun b => BitVec.setWidth 32 (BitVec.ofBool b)) (decide_eq_decide.mpr ((thr_le x k).trans (h k)))

/-- Below the least normal number no threshold is reached. -/
theorem count_small (x : ℝ) (h : x < (2 : ℝ) ^ (-126 : ℤ)) : count (x : EReal) = 0#32 := by
  refine count_of x 0 fun k => ⟨fun hk => absurd hk.2 (not_le.mpr (lt_of_lt_of_le h ?_)), fun hk => absurd hk (Nat.not_succ_le_zero _)⟩
  exact zpow_le_zpow_right₀ (by norm_num) (by omega)

/-- In the binade of field `f` the count is `f`. -/
theorem count_binade (x : ℝ) (f : Fin 256) (hf : f.val ≤ 254) (h1 : (2 : ℝ) ^ ((f.val : ℤ) - 127) ≤ x) (h2 : x < (2 : ℝ) ^ ((f.val : ℤ) - 126)) :
    count (x : EReal) = BitVec.ofNat 32 f.val := by
  refine count_of x f fun k => ⟨fun hk => ?_, fun hk => ⟨by omega, le_trans (zpow_le_zpow_right₀ (by norm_num) (by omega)) h1⟩⟩
  have h3 := (zpow_lt_zpow_iff_right₀ (by norm_num : (1 : ℝ) < 2)).mp (lt_of_le_of_lt hk.2 h2)
  omega

/-! ## The least exponent -/

/-- The least exponent whose power of two exceeds `a`, as the reference writes it. -/
def least (a : EReal) : EReal :=
  Finset.fold min (Ideal.ofBits FTy.f32 2139095040#32)
    (fun x : Fin 256 => if a < FloatOps.exp2 (F := Ideal) (φ := .f32) (FloatOps.sitofp (F := Ideal) FTy.f32 (IntOp.subi (BitVec.ofNat 32 x.val) 128#32))
      then FloatOps.sitofp (F := Ideal) FTy.f32 (IntOp.subi (BitVec.ofNat 32 x.val) 128#32) else Ideal.ofBits FTy.f32 1124073472#32) Finset.univ

theorem exp_val (k : Fin 256) : FloatOps.sitofp (F := Ideal) FTy.f32 (IntOp.subi (BitVec.ofNat 32 k.val) 128#32) = ((((k.val : ℤ) - 128 : ℤ) : ℝ) : EReal) := by
  show ((((IntOp.subi (BitVec.ofNat 32 k.val) 128#32).toInt : ℤ) : ℝ) : EReal) = _
  rw [exp_word]

theorem exp2_int (n : ℤ) : FloatOps.exp2 (F := Ideal) (φ := .f32) (((n : ℤ) : ℝ) : EReal) = (((2 : ℝ) ^ n : ℝ) : EReal) := by
  show ((Real.rpow 2 ((n : ℤ) : ℝ) : ℝ) : EReal) = _
  exact congrArg _ (Real.rpow_intCast 2 n)

theorem c128 : Ideal.ofBits FTy.f32 1124073472#32 = (((128 : ℤ) : ℝ) : EReal) := by
  have h : Ideal.ofBits FTy.f32 1124073472#32 = (((2 : ℝ) ^ (((134 : Fin 256).val : ℤ) - 127) : ℝ) : EReal) := pow_bits 134 (by decide) (by decide)
  rw [h]
  refine congrArg _ ?_
  show (2 : ℝ) ^ (((134 : ℕ) : ℤ) - 127) = _
  norm_num

theorem least_binade (x : ℝ) (f : ℕ) (hf : f ≤ 253) (h1 : (2 : ℝ) ^ ((f : ℤ) - 127) ≤ x) (h2 : x < (2 : ℝ) ^ ((f : ℤ) - 126)) :
    least (x : EReal) = ((((f : ℤ) - 126 : ℤ) : ℝ) : EReal) := by
  unfold least
  simp only [exp_val, exp2_int, EReal.coe_lt_coe_iff, c128]
  refine le_antisymm ?_ ?_
  · rw [Finset.fold_min_le]
    refine .inr ⟨⟨f + 2, by omega⟩, Finset.mem_univ _, ?_⟩
    have e : (((f + 2 : ℕ) : ℤ) - 128) = (f : ℤ) - 126 := by push_cast; ring
    show (if x < (2 : ℝ) ^ (((f + 2 : ℕ) : ℤ) - 128) then ((((((f + 2 : ℕ) : ℤ) - 128 : ℤ) : ℝ)) : EReal) else _) ≤ _
    rw [e, if_pos h2]
  · rw [Finset.le_fold_min]
    refine ⟨?_, fun k _ => ?_⟩
    · have ht : Ideal.ofBits FTy.f32 2139095040#32 = (⊤ : EReal) := top_bits
      rw [ht]
      exact le_top
    · split_ifs with h
      · have h3 := (zpow_lt_zpow_iff_right₀ (by norm_num : (1 : ℝ) < 2)).mp (lt_of_le_of_lt h1 h)
        rw [EReal.coe_le_coe_iff, Int.cast_le]
        omega
      · rw [EReal.coe_le_coe_iff, Int.cast_le]
        omega

end Cert.Proof.Val

end
-- ==== Proof.Exponent.lean ====
/-
  The quantiser's power of two: the kernel counts thresholds and builds the scale from an integer's bits, the reference
  takes the least exponent whose power exceeds the magnitude. For a history of finite
  numbers whose magnitude is zero or normal they agree, and so do the codes.
-/
module

public import proofs.«01_k».proof.Proof.Powers
public import proofs.«01_k».proof.Proof.Body

@[expose] public section

set_option maxRecDepth 16384

noncomputable section

namespace Cert.Proof.Val

open Cert.KernelIdeal Cert.KernelIdeal.Gen
open Idealize.ShloMosaic

/-- The largest entry of the history. -/
def top (H : Vec Ideal S1x16 .f32) : EReal := Finset.fold max (Ideal.ofBits FTy.f32 4286578688#32) (fun x => H (ix2 0 x)) Finset.univ

/-- The magnitude whose exponent is taken. -/
def mag (H : Vec Ideal S1x16 .f32) : EReal := FloatOps.absf (F := Ideal) (φ := .f32) (top H * Ideal.ofBits FTy.f32 991054117#32)

/-! ## The payloads -/

theorem pay66_apply (H : Vec Ideal S1x16 .f32) : k0_pay66 H (ix2 0 0) = count (mag H) := by
  unfold count mag top
  pointwise [k0_pay66]

theorem pay67_apply (H : Vec Ideal S1x16 .f32) : k0_pay67 H (ix2 0 0) = IntOp.cmpi CmpIPredicate.eq (count (mag H)) 0#32 := by
  rw [← pay66_apply]
  unfold k0_pay67
  generalize k0_pay66 H = f
  pointwise

theorem pay7_apply (H : Vec Ideal S1x16 .f32) : Cert.ReferenceIdeal.Gen.k0_pay7 (F := Ideal) H (ix2 0 0)
    = if mag H = 0 then 0 else least (mag H) := by
  unfold least mag top
  pointwise [Cert.ReferenceIdeal.Gen.k0_pay7]

/-- The exponent word from the count. -/
def expo (f : BitVec 32) : BitVec 32 :=
  Scalar.select (IntOp.ori (IntOp.cmpi CmpIPredicate.eq f 0#32) (IntOp.cmpi CmpIPredicate.eq f 255#32)) (0#32) (IntOp.subi f 126#32)

theorem pay69_apply (f : IVec S1x1 32) (z : IVec S1x1 1) (h : z (ix2 0 0) = IntOp.cmpi CmpIPredicate.eq (f (ix2 0 0)) 0#32) :
    k0_pay69 (F := Ideal) f z 255#32 (ix2 0 0) = Ideal.ofBits FTy.f32 (IntOp.shli ArithUnit.vector (IntOp.subi (127#32) (expo (f (ix2 0 0)))) 23#32) := by
  unfold expo
  rw [← h]
  pointwise [k0_pay69, k0_pay68]

theorem pay70_apply (f : IVec S1x1 32) (z : IVec S1x1 1) (h : z (ix2 0 0) = IntOp.cmpi CmpIPredicate.eq (f (ix2 0 0)) 0#32) :
    k0_pay70 (F := Ideal) f z 255#32 (ix2 0 0) = Ideal.ofBits FTy.f32 (IntOp.shli ArithUnit.vector (IntOp.addi (expo (f (ix2 0 0))) 127#32) 23#32) := by
  unfold expo
  rw [← h]
  pointwise [k0_pay70, k0_pay68]

theorem pay8_apply (H : Vec Ideal S1x16 .f32) : Cert.ReferenceIdeal.Gen.k0_pay8 (F := Ideal) H (ix2 0 0)
    = FloatOps.exp2 (F := Ideal) (φ := .f32) (Cert.ReferenceIdeal.Gen.k0_pay7 (F := Ideal) H (ix2 0 0)) := by
  unfold Cert.ReferenceIdeal.Gen.k0_pay8
  generalize Cert.ReferenceIdeal.Gen.k0_pay7 H = e
  pointwise

theorem codes_apply (H : Vec Ideal S1x16 .f32) (R : FVec Ideal ReferenceIdeal.S2x128x7168 .f32) (b : Fin 2) (t : Fin 128) (d : Fin 7168) :
    Cert.ReferenceIdeal.Gen.k0_pay1 (Cert.ReferenceIdeal.Gen.k0_pay9 (F := Ideal) R H) (Scalar.ofBits .f32 0xC3E00000#32) (ix3 b t d)
      = min (Ideal.ofBits FTy.f32 1138753536#32) (max (Ideal.ofBits FTy.f32 3286237184#32)
          (R (ix3 b t d) * FloatOps.exp2 (F := Ideal) (φ := .f32) (0 - Cert.ReferenceIdeal.Gen.k0_pay7 (F := Ideal) H (ix2 0 0)))) := by
  unfold Cert.ReferenceIdeal.Gen.k0_pay9
  generalize Cert.ReferenceIdeal.Gen.k0_pay7 H = e
  pointwise [Cert.ReferenceIdeal.Gen.k0_pay1]

theorem pay41_apply (s : FVec Ideal S1x1 .f32) (iv : FVec Ideal S32x1 .f32) (R : Vec Ideal S1x32x1024 .bf16) (G : Vec Ideal S1x1024 .f32) (r : Fin 32) (d : Fin 1024) :
    k0_pay41 s iv R G (ix3 0 r d) = min (Ideal.ofBits FTy.f32 1138753536#32) (max (Ideal.ofBits FTy.f32 3286237184#32)
      (k0_pay40 iv R G (ix2 r d) * s (ix2 0 0))) := by
  unfold k0_pay41
  generalize k0_pay40 iv R G = y
  pointwise

/-! ## The magnitude of a finite history -/

theorem c448 : Ideal.ofBits FTy.f32 991054117#32 = ((9586981 * (2 : ℝ) ^ (-32 : ℤ) : ℝ) : EReal) := by
  show Ideal.ieee 8 23 (991054117#32 : BitVec 32) = _
  unfold Ideal.ieee
  have hs : ((991054117#32 : BitVec 32).extractLsb' (8 + 23) 1 == 1#1) = false := by decide +kernel
  have he : ((991054117#32 : BitVec 32).extractLsb' 23 8).toNat = 118 := by decide +kernel
  have hf : ((991054117#32 : BitVec 32).extractLsb' 0 23).toNat = 1198373 := by decide +kernel
  simp only [hs, he, hf]
  norm_num

theorem big : Ideal.ofBits FTy.f32 0x7F7FFFFF#32 = ((16777215 * (2 : ℝ) ^ (104 : ℤ) : ℝ) : EReal) := by
  show Ideal.ieee 8 23 (0x7F7FFFFF#32 : BitVec 32) = _
  unfold Ideal.ieee
  have hs : ((0x7F7FFFFF#32 : BitVec 32).extractLsb' (8 + 23) 1 == 1#1) = false := by decide +kernel
  have he : ((0x7F7FFFFF#32 : BitVec 32).extractLsb' 23 8).toNat = 254 := by decide +kernel
  have hf : ((0x7F7FFFFF#32 : BitVec 32).extractLsb' 0 23).toNat = 8388607 := by decide +kernel
  simp only [hs, he, hf]
  norm_num

theorem tiny : Ideal.ofBits FTy.f32 8388608#32 = (((2 : ℝ) ^ (-126 : ℤ) : ℝ) : EReal) := by
  have h : Ideal.ofBits FTy.f32 8388608#32 = (((2 : ℝ) ^ (((1 : Fin 256).val : ℤ) - 127) : ℝ) : EReal) := pow_bits 1 (by decide) (by decide)
  rw [h]
  refine congrArg _ ?_
  show (2 : ℝ) ^ (((1 : ℕ) : ℤ) - 127) = _
  norm_num

/-- A history of finite numbers whose magnitude is zero or a normal number. -/
def Normal (H : Vec Ideal S1x16 .f32) : Prop :=
  (∀ k : Fin 16, max (H (ix2 0 k)) (-H (ix2 0 k)) ≤ Ideal.ofBits FTy.f32 0x7F7FFFFF#32)
    ∧ (mag H = 0 ∨ Ideal.ofBits FTy.f32 8388608#32 ≤ mag H)

theorem mag_real (H : Vec Ideal S1x16 .f32) (hH : Normal H) : ∃ x : ℝ, mag H = (x : EReal) ∧ 0 ≤ x ∧ x < (2 : ℝ) ^ (120 : ℤ) := by
  have hb : Ideal.ofBits FTy.f32 4286578688#32 = (⊥ : EReal) := by simp [Ideal.ofBits, Ideal.ieee]
  have h1 : top H ≤ ((16777215 * (2 : ℝ) ^ (104 : ℤ) : ℝ) : EReal) := by
    unfold top
    rw [Finset.fold_max_le, hb]
    exact ⟨bot_le, fun k _ => le_trans (le_max_left _ _) ((hH.1 k).trans_eq big)⟩
  have h2 : ((-(16777215 * (2 : ℝ) ^ (104 : ℤ)) : ℝ) : EReal) ≤ top H := by
    have h3 : H (ix2 0 0) ≤ top H := by
      unfold top
      exact (Finset.le_fold_max _).mpr (.inr ⟨0, Finset.mem_univ _, le_rfl⟩)
    refine le_trans ?_ h3
    rw [EReal.coe_neg]
    exact EReal.neg_le_of_neg_le (le_trans (le_max_right _ _) ((hH.1 0).trans_eq big))
  have ht : top H ≠ ⊤ := fun h => by rw [h] at h1; exact absurd h1 (not_le.mpr (EReal.coe_lt_top _))
  have hbt : top H ≠ ⊥ := fun h => by rw [h] at h2; exact absurd h2 (not_le.mpr (EReal.bot_lt_coe _))
  obtain ⟨m, hm⟩ : ∃ m : ℝ, top H = (m : EReal) := ⟨(top H).toReal, (EReal.coe_toReal ht hbt).symm⟩
  rw [hm, EReal.coe_le_coe_iff] at h1 h2
  refine ⟨|m * (9586981 * (2 : ℝ) ^ (-32 : ℤ))|, ?_, abs_nonneg _, ?_⟩
  · unfold mag
    rw [hm, c448, ← EReal.coe_mul]
    show max ((_ : ℝ) : EReal) (-((_ : ℝ) : EReal)) = _
    rw [← EReal.coe_neg]
    exact (EReal.coe_strictMono.monotone.map_max).symm
  · rw [abs_mul]
    have h3 : |m| ≤ 16777215 * (2 : ℝ) ^ (104 : ℤ) := abs_le.mpr ⟨h2, h1⟩
    have h4 : |(9586981 * (2 : ℝ) ^ (-32 : ℤ) : ℝ)| = 9586981 * (2 : ℝ) ^ (-32 : ℤ) := abs_of_nonneg (by positivity)
    rw [h4]
    refine lt_of_le_of_lt (mul_le_mul_of_nonneg_right h3 (by positivity)) ?_
    norm_num

/-! ## The two scales -/

theorem scale_word : ∀ f : Fin 254, f.val ≠ 0 → IntOp.shli ArithUnit.vector (IntOp.addi (expo (BitVec.ofNat 32 f.val)) 127#32) 23#32
    = BitVec.ofNat 32 ((f.val + 1) * 2 ^ 23) := by decide +kernel
theorem inv_word : ∀ f : Fin 253, f.val ≠ 0 → IntOp.shli ArithUnit.vector (IntOp.subi (127#32) (expo (BitVec.ofNat 32 f.val))) 23#32
    = BitVec.ofNat 32 ((253 - f.val) * 2 ^ 23) := by decide +kernel

/-- The kernel's scale and inverse scale, and the reference's exponent, are those of one integer. -/
theorem scales (H : Vec Ideal S1x16 .f32) (hH : Normal H) : ∃ e : ℤ,
    Cert.ReferenceIdeal.Gen.k0_pay7 (F := Ideal) H (ix2 0 0) = ((e : ℝ) : EReal)
    ∧ Ideal.ofBits FTy.f32 (IntOp.shli ArithUnit.vector (IntOp.addi (expo (count (mag H))) 127#32) 23#32) = (((2 : ℝ) ^ e : ℝ) : EReal)
    ∧ Ideal.ofBits FTy.f32 (IntOp.shli ArithUnit.vector (IntOp.subi (127#32) (expo (count (mag H)))) 23#32) = (((2 : ℝ) ^ (-e) : ℝ) : EReal) := by
  obtain ⟨x, hx, h0, h1⟩ := mag_real H hH
  have hn := hH.2
  rw [pay7_apply]
  rw [hx, tiny, EReal.coe_le_coe_iff] at hn
  rw [hx]
  by_cases hz : (x : EReal) = 0
  · have hs : x < (2 : ℝ) ^ (-126 : ℤ) := by
      rw [EReal.coe_eq_zero.mp hz]
      positivity
    rw [if_pos hz, count_small x hs]
    have hw1 : IntOp.shli ArithUnit.vector (IntOp.addi (expo (0#32)) 127#32) 23#32 = 0x3F800000#32 := by decide +kernel
    have hw2 : IntOp.shli ArithUnit.vector (IntOp.subi (127#32) (expo (0#32))) 23#32 = 0x3F800000#32 := by decide +kernel
    refine ⟨0, by simp, ?_, ?_⟩
    · rw [hw1, Ideal.ofBits_one_f32]; simp
    · rw [hw2, Ideal.ofBits_one_f32]; simp
  · have hs : ¬ x < (2 : ℝ) ^ (-126 : ℤ) := not_lt.mpr (hn.resolve_left hz)
    rw [if_neg hz]
    have hp : 0 < x := lt_of_lt_of_le (by positivity) (not_lt.mp hs)
    obtain ⟨j, hj1, hj2⟩ := exists_mem_Ico_zpow hp (by norm_num : (1 : ℝ) < 2)
    have hj3 : j < 120 := (zpow_lt_zpow_iff_right₀ (by norm_num : (1 : ℝ) < 2)).mp (lt_of_le_of_lt hj1 h1)
    have hj4 : -126 < j + 1 := (zpow_lt_zpow_iff_right₀ (by norm_num : (1 : ℝ) < 2)).mp (lt_of_le_of_lt (not_lt.mp hs) hj2)
    obtain ⟨f, rfl⟩ : ∃ f : ℕ, j = (f : ℤ) - 127 := ⟨(j + 127).toNat, by omega⟩
    rw [show (f : ℤ) - 127 + 1 = (f : ℤ) - 126 by ring] at hj2
    rw [count_binade x ⟨f, by omega⟩ (by show f ≤ 254; omega) hj1 hj2, least_binade x f (by omega) hj1 hj2]
    refine ⟨(f : ℤ) - 126, rfl, ?_, ?_⟩
    · have hw := scale_word ⟨f, by omega⟩ (by show f ≠ 0; omega)
      refine (congrArg (Ideal.ofBits FTy.f32) hw).trans ?_
      refine (pow_bits ⟨f + 1, by omega⟩ (by show f + 1 ≠ 0; omega) (by show f + 1 ≠ 255; omega)).trans ?_
      refine congrArg (fun n : ℤ => (((2 : ℝ) ^ n : ℝ) : EReal)) ?_
      show ((f + 1 : ℕ) : ℤ) - 127 = _
      push_cast
      ring
    · have hw := inv_word ⟨f, by omega⟩ (by show f ≠ 0; omega)
      refine (congrArg (Ideal.ofBits FTy.f32) hw).trans ?_
      refine (pow_bits ⟨253 - f, by omega⟩ (by show 253 - f ≠ 0; omega) (by show 253 - f ≠ 255; omega)).trans ?_
      refine congrArg (fun n : ℤ => (((2 : ℝ) ^ n : ℝ) : EReal)) ?_
      show ((253 - f : ℕ) : ℤ) - 127 = _
      rw [Nat.cast_sub (by omega)]
      push_cast
      ring

/-- RESULT 5: the scale. -/
theorem scale_eq (H : Vec Ideal S1x16 .f32) (hH : Normal H) : Run.scaleOut H = Ref.scale H := by
  obtain ⟨e, h1, h2, h3⟩ := scales H hH
  funext j
  idx_vars j
  have hj : ix2 j0 j1 = (ix2 0 0 : S1x1.Idx) := by
    rw [ix2_inj]; exact ⟨Subsingleton.elim (α := Fin 1) _ _, Subsingleton.elim (α := Fin 1) _ _⟩
  rw [hj]
  unfold Run.scaleOut Ref.scale
  rw [pay70_apply _ _ ((pay67_apply H).trans (by rw [pay66_apply])), pay8_apply, h1, exp2_int, pay66_apply, h2]

/-- The inverse scale which the codes are multiplied by. -/
theorem inv_eq (H : Vec Ideal S1x16 .f32) (hH : Normal H) : k0_pay69 (F := Ideal) (k0_pay66 H) (k0_pay67 H) 255#32 (ix2 0 0)
    = FloatOps.exp2 (F := Ideal) (φ := .f32) (0 - Cert.ReferenceIdeal.Gen.k0_pay7 (F := Ideal) H (ix2 0 0)) := by
  obtain ⟨e, h1, h2, h3⟩ := scales H hH
  rw [pay69_apply _ _ ((pay67_apply H).trans (by rw [pay66_apply])), h1, pay66_apply, h3]
  have h4 : (0 : EReal) - ((e : ℝ) : EReal) = (((-e : ℤ) : ℝ) : EReal) := by
    rw [zero_sub, Int.cast_neg, EReal.coe_neg]
  rw [h4, exp2_int]

/-- RESULT 4: the codes. -/
theorem codes_eq (I : Run.Inp Ideal) (P : Vec Ideal S16x2x128x7168 .fp8e4m3) (S : Vec Ideal S16x2x128 .f32) (H : Vec Ideal S1x16 .f32) (hH : Normal H)
    (hs : I.sc = k0_pay69 (F := Ideal) (k0_pay66 H) (k0_pay67 H) 255#32)
    (hY : ∀ (g : Fin 8) (i : Fin 7) (r : Fin 32) (d : Fin 1024),
      k0_pay40 (Run.invS I g) (Run.resS I g i) (Run.rowS I.G i) (ix2 r d)
        = Ref.rows P S I.B I.XX I.G (ix3 (Run.bOf g) (Run.tOf g r) (Run.cOf i d))) :
    Run.Gcodes I = Ref.codes P S I.B I.XX I.G H := by
  funext y
  idx_vars y
  show Run.codeS I (Run.gOf y0 y1) (Run.iOf y2) (ValueIdx.ix3 0 (Run.rOf y1) (Run.dOf y2)) = _
  rw [← ix3_eq_valueIdx]
  unfold Run.codeS Ref.codes
  rw [pay41_apply, codes_apply, hY, hs, inv_eq H hH]
  refine congrArg (fun z : EReal => min (Ideal.ofBits FTy.f32 1138753536#32) (max (Ideal.ofBits FTy.f32 3286237184#32) (z * FloatOps.exp2 (F := Ideal) (φ := .f32) (0 - Cert.ReferenceIdeal.Gen.k0_pay7 (F := Ideal) H (ix2 0 0))))) ?_
  refine congrArg (Ref.rows P S I.B I.XX I.G) ?_
  rw [ix3_inj]
  refine ⟨Fin.ext ?_, Fin.ext ?_, Fin.ext ?_⟩
  · show (4 * y0.val + y1.val / 32) / 4 = y0.val; omega
  · show 32 * ((4 * y0.val + y1.val / 32) % 4) + y1.val % 32 = y1.val; omega
  · show 1024 * (y2.val / 1024) + y2.val % 1024 = y2.val; omega

end Cert.Proof.Val

end
-- ==== Proof.Algebraic.lean ====
/-
  The five results of the kernel over the reals are the five results of the reference, at equal arguments with a history
  of finite numbers whose scaled maximum is zero or normal.
-/
module

public import proofs.«01_k».proof.Pre_normal_history
public import proofs.«01_k».proof.Proof.Weights
public import proofs.«01_k».proof.Proof.Residual
public import proofs.«01_k».proof.Proof.Maximum
public import proofs.«01_k».proof.Proof.Exponent
public import proofs.«01_k».proof.Proof.Launch
public import Idealize.ShloMosaic.Lib.ReduceAll

@[expose] public section

set_option maxRecDepth 16384

noncomputable section

namespace Cert.Proof.Val

open Idealize.ShloMosaic Idealize.ShloMosaic.TcCoe

/-! ## The arguments the host code reshapes -/

section Host
variable {F : FTy → Type} [FloatOps F]

section K
open Cert.KernelIdeal Cert.KernelIdeal.Gen
variable (m : (ℓ : Loc nD τ sig) → Buf (Elt F) ℓ) (c : Dev nD)

theorem k_v0 : V m c main_v0 = shapeCast S1x7168 (m ((c.tc : Thread nD τ).loc main_arg2)) shapeCasts_S7168_S1x7168 := by
  show StableHlo.after hostOps0 (fun b => m (c, b)) main_v0 = _
  rw [hostOps0, StableHlo.after_cons, StableHlo.after_cons, StableHlo.after_cons, StableHlo.after_nil,
    StableHlo.reshape_result_ne _ _ _ _ _ _ _ (by decide), StableHlo.reshape_result_ne _ _ _ _ _ _ _ (by decide), StableHlo.reshape_result]
  rfl
theorem k_v1 : V m c main_v1 = shapeCast S1x7168 (m ((c.tc : Thread nD τ).loc main_arg4)) shapeCasts_S7168_S1x7168 := by
  show StableHlo.after hostOps0 (fun b => m (c, b)) main_v1 = _
  rw [hostOps0, StableHlo.after_cons, StableHlo.after_cons, StableHlo.after_cons, StableHlo.after_nil,
    StableHlo.reshape_result_ne _ _ _ _ _ _ _ (by decide), StableHlo.reshape_result, StableHlo.reshape_result_ne _ _ _ _ _ _ _ (by decide)]
  rfl
theorem k_v2 : V m c main_v2 = shapeCast S1x16 (m ((c.tc : Thread nD τ).loc main_arg5)) shapeCasts_S16_S1x16 := by
  show StableHlo.after hostOps0 (fun b => m (c, b)) main_v2 = _
  rw [hostOps0, StableHlo.after_cons, StableHlo.after_cons, StableHlo.after_cons, StableHlo.after_nil,
    StableHlo.reshape_result, StableHlo.reshape_result_ne _ _ _ _ _ _ _ (by decide), StableHlo.reshape_result_ne _ _ _ _ _ _ _ (by decide)]
  rfl
end K

section R
open Cert.ReferenceIdeal Cert.ReferenceIdeal.Gen
variable (m : (ℓ : Loc nD τ sig) → Buf (Elt F) ℓ) (c : Dev nD)

theorem r_v0 : V m c main_v0 = shapeCast S1x7168 (m ((c.tc : Thread nD τ).loc main_arg2)) shapeCasts_S7168_S1x7168 := by
  show StableHlo.after hostOps0 (fun b => m (c, b)) main_v0 = _
  rw [hostOps0, StableHlo.after_cons, StableHlo.after_cons, StableHlo.after_cons, StableHlo.after_nil,
    StableHlo.reshape_result_ne _ _ _ _ _ _ _ (by decide), StableHlo.reshape_result_ne _ _ _ _ _ _ _ (by decide), StableHlo.reshape_result]
  rfl
theorem r_v1 : V m c main_v1 = shapeCast S1x7168 (m ((c.tc : Thread nD τ).loc main_arg4)) shapeCasts_S7168_S1x7168 := by
  show StableHlo.after hostOps0 (fun b => m (c, b)) main_v1 = _
  rw [hostOps0, StableHlo.after_cons, StableHlo.after_cons, StableHlo.after_cons, StableHlo.after_nil,
    StableHlo.reshape_result_ne _ _ _ _ _ _ _ (by decide), StableHlo.reshape_result, StableHlo.reshape_result_ne _ _ _ _ _ _ _ (by decide)]
  rfl
theorem r_v2 : V m c main_v2 = shapeCast S1x16 (m ((c.tc : Thread nD τ).loc main_arg5)) shapeCasts_S16_S1x16 := by
  show StableHlo.after hostOps0 (fun b => m (c, b)) main_v2 = _
  rw [hostOps0, StableHlo.after_cons, StableHlo.after_cons, StableHlo.after_cons, StableHlo.after_nil,
    StableHlo.reshape_result, StableHlo.reshape_result_ne _ _ _ _ _ _ _ (by decide), StableHlo.reshape_result_ne _ _ _ _ _ _ _ (by decide)]
  rfl
end R
end Host

/-! ## The precondition -/

theorem pre_facts : Cert.Pre_normal_history.Facts := ⟨by decide, by decide, by decide⟩

/-- The magnitude, as the precondition takes it. -/
theorem pre_mag (x5 : FVec Ideal Cert.Pre_normal_history.S16 .f32) (h1 : Cert.Pre_normal_history.S16.ReducesTo [0] Cert.Pre_normal_history.S_) (h2 : 0 < Cert.Pre_normal_history.S_.numel)
    (i : Cert.Pre_normal_history.S_.Idx) :
    Host.absf (mulf (Host.reduce (α := Ideal .f32) FloatOps.maximumf x5 (constant (F := Ideal) Cert.Pre_normal_history.S_ .f32 0xFF800000#32) h1 h2)
      (constant (F := Ideal) Cert.Pre_normal_history.S_ .f32 0x3B124925#32)) i
    = mag (shapeCast Cert.KernelIdeal.S1x16 x5 Cert.KernelIdeal.Gen.shapeCasts_S16_S1x16) := by
  unfold mag top
  pointwise

/-- The precondition says that every entry of the history is finite, and its magnitude zero or normal. -/
theorem fin_of_pre [Cert.Pre_normal_history.Facts] (x0 : FVec Ideal Cert.Pre_normal_history.S16x2x128x7168 .fp8e4m3) (x1 : FVec Ideal Cert.Pre_normal_history.S16x2x128 .f32)
    (x2 : FVec Ideal Cert.Pre_normal_history.S7168 .f32) (x3 : FVec Ideal Cert.Pre_normal_history.S2x128x7168 .bf16) (x4 : FVec Ideal Cert.Pre_normal_history.S7168 .f32)
    (x5 : FVec Ideal Cert.Pre_normal_history.S16 .f32) (h : Cert.Pre_normal_history.fn (F := Ideal) x0 x1 x2 x3 x4 x5 = fun _ => 1#1) :
    Normal (shapeCast Cert.KernelIdeal.S1x16 x5 Cert.KernelIdeal.Gen.shapeCasts_S16_S1x16) := by
  have bit : ∀ p : Prop, ∀ [Decidable p], BitVec.ofBool (decide p) = 1#1 → p := by
    intro p _ hp
    by_contra hn
    rw [decide_eq_false hn] at hp
    exact absurd hp (by decide)
  have both : ∀ a b : BitVec 1, a &&& b = 1#1 → a = 1#1 ∧ b = 1#1 := by decide
  have one : ∀ a b : BitVec 1, a ||| b = 1#1 → a = 1#1 ∨ b = 1#1 := by decide
  haveI : Subsingleton Cert.Pre_normal_history.S_.Idx := ⟨fun a b => funext fun i => i.elim0⟩
  obtain ⟨ha, hb⟩ := both _ _ (congrFun h (fun i => i.elim0))
  refine ⟨fun k => ?_, ?_⟩
  · have e : shapeCast Cert.KernelIdeal.S1x16 x5 Cert.KernelIdeal.Gen.shapeCasts_S16_S1x16 (ix2 0 k) = x5 (ix1 k) := by pointwise
    rw [e]
    have h1 := Host.reduce_andi_all _ _ _ _ _ ha (ix1 k)
    exact bit _ h1
  · rw [← pre_mag x5 Cert.Pre_normal_history.Facts.reducesTo_S16_S_d0 Cert.Pre_normal_history.Facts.h_S_ (fun i => i.elim0)]
    rcases one _ _ hb with h1 | h1
    · exact .inl ((bit _ h1).trans Ideal.ofBits_zero_f32)
    · exact .inr (bit _ h1)

/-! ## The results -/

section Results
open Cert.KernelIdeal
variable (P : Vec Ideal S16x2x128x7168 .fp8e4m3) (X : Vec Ideal S2x128x7168 .bf16) (S : Vec Ideal S16x2x128 .f32)
  (B G : Vec Ideal S1x7168 .f32) (H : Vec Ideal S1x16 .f32)

theorem mkI_L : (Run.mkI P X S B G H).L = Run.lhsL S := by unfold Run.mkI; rfl
theorem mkI_XP : (Run.mkI P X S B G H).XP = P := by unfold Run.mkI; rfl

theorem slabs (g : Fin 8) (i : Fin 7) (r : Fin 32) (d : Fin 1024) :
    Run.resS (Run.mkI P X S B G H) g i (ix3 0 r d)
      = Ref.res P S (Run.mkI P X S B G H).B (Run.mkI P X S B G H).XX (ix3 (Run.bOf g) (Run.tOf g r) (Run.cOf i d)) := by
  have hL : ∀ (b : Fin 2) (t : Fin 128) (k : Fin 512), (Run.mkI P X S B G H).L (ix2 ⟨128 * b.val + t.val, by omega⟩ k)
      = if t.val % 32 = k.val % 32 then S (ix3 ⟨k.val / 32, by omega⟩ b t) else 0 := by
    intro b t k
    rw [mkI_L]
    exact lhs_apply S b t k
  have h := resS_of (Run.mkI P X S B G H) S hL g i r d
  rw [mkI_XP] at h
  exact h

theorem normed (g : Fin 8) (i : Fin 7) (r : Fin 32) (d : Fin 1024) :
    Gen.k0_pay40 (Run.invS (Run.mkI P X S B G H) g) (Run.resS (Run.mkI P X S B G H) g i) (Run.rowS (Run.mkI P X S B G H).G i) (ix2 r d)
      = Ref.rows P S (Run.mkI P X S B G H).B (Run.mkI P X S B G H).XX (Run.mkI P X S B G H).G (ix3 (Run.bOf g) (Run.tOf g r) (Run.cOf i d)) :=
  y_apply (Run.mkI P X S B G H) P S (slabs P X S B G H) g i r d

theorem result0 : Run.Gres (Run.mkI P X S B G H) = Ref.res P S B X := res_eq (Run.mkI P X S B G H) P S (slabs P X S B G H)

theorem top_eq : Gen.k0_pay72 (Run.amaxS (Run.mkI P X S B G H) 8) = Ref.amax P S B X G :=
  pay72_eq (Run.mkI P X S B G H) P S (normed P X S B G H)

theorem result1 : Run.amaxOut (Run.mkI P X S B G H) = Ref.amax P S B X G := amax_eq _ _ (top_eq P X S B G H)

theorem result2 : Run.histOut (Run.mkI P X S B G H) H = Ref.hist P S B X G H :=
  hist_eq (Run.mkI P X S B G H) P S H (top_eq P X S B G H)

theorem result3 (hH : Normal H) : Run.Gcodes (Run.mkI P X S B G H) = Ref.codes P S B X G H :=
  codes_eq (Run.mkI P X S B G H) P S H hH rfl (normed P X S B G H)

end Results

end Cert.Proof.Val

end
-- ==== Proof.lean ====
/-
  The claims: the kernel, its reading over the reals and the reference each run to the end with their arguments
  unchanged and every semaphore counter at zero; and over the reals, from equal arguments that satisfy the precondition on the
  history, kernel and reference end with equal results, all five.
-/
module

public import proofs.«01_k».proof.Defs
public import proofs.«01_k».proof.Proof.Gen.Kernel
public import proofs.«01_k».proof.Proof.Gen.ReferenceIdeal.Frame
public import proofs.«01_k».proof.Proof.Frames
public import proofs.«01_k».proof.Proof.Reference
public import proofs.«01_k».proof.Proof.Algebraic

@[expose] public section

set_option maxRecDepth 16384

noncomputable section

namespace Cert.Proof

open Idealize.ShloMosaic Idealize.SL.Sem

/-- The value claim: the common results are the reference's, written in the kernel's arguments. -/
theorem algebraic : @Cert.algebraic_KernelIdeal_ReferenceIdeal_pre_normal_history
    Cert.KernelIdeal.Gen.facts Cert.ReferenceIdeal.Gen.facts Val.pre_facts := by
  intro m g m' g' hpre heq
  have hV : ∀ c : Dev Cert.KernelIdeal.nD, Cert.ReferenceIdeal.Gen.V m' c Cert.ReferenceIdeal.main_arg0 = Cert.KernelIdeal.Gen.V m c Cert.KernelIdeal.main_arg0
      ∧ Cert.ReferenceIdeal.Gen.V m' c Cert.ReferenceIdeal.main_arg1 = Cert.KernelIdeal.Gen.V m c Cert.KernelIdeal.main_arg1
      ∧ Cert.ReferenceIdeal.Gen.V m' c Cert.ReferenceIdeal.main_v0 = Cert.KernelIdeal.Gen.V m c Cert.KernelIdeal.main_v0
      ∧ Cert.ReferenceIdeal.Gen.V m' c Cert.ReferenceIdeal.main_arg3 = Cert.KernelIdeal.Gen.V m c Cert.KernelIdeal.main_arg3
      ∧ Cert.ReferenceIdeal.Gen.V m' c Cert.ReferenceIdeal.main_v1 = Cert.KernelIdeal.Gen.V m c Cert.KernelIdeal.main_v1
      ∧ Cert.ReferenceIdeal.Gen.V m' c Cert.ReferenceIdeal.main_v2 = Cert.KernelIdeal.Gen.V m c Cert.KernelIdeal.main_v2 := by
    intro c
    obtain ⟨h0, h1, h2, h3, h4, h5⟩ := heq c
    refine ⟨?_, ?_, ?_, ?_, ?_, ?_⟩
    · rw [Cert.ReferenceIdeal.Gen.V_main_arg0, Cert.KernelIdeal.Gen.V_main_arg0]; exact h0
    · rw [Cert.ReferenceIdeal.Gen.V_main_arg1, Cert.KernelIdeal.Gen.V_main_arg1]; exact h1
    · rw [Val.r_v0, Val.k_v0]; exact congrArg (fun a => shapeCast Cert.KernelIdeal.S1x7168 a Cert.KernelIdeal.Gen.shapeCasts_S7168_S1x7168) h2
    · rw [Cert.ReferenceIdeal.Gen.V_main_arg3, Cert.KernelIdeal.Gen.V_main_arg3]; exact h3
    · rw [Val.r_v1, Val.k_v1]; exact congrArg (fun a => shapeCast Cert.KernelIdeal.S1x7168 a Cert.KernelIdeal.Gen.shapeCasts_S7168_S1x7168) h4
    · rw [Val.r_v2, Val.k_v2]; exact congrArg (fun a => shapeCast Cert.KernelIdeal.S1x16 a Cert.KernelIdeal.Gen.shapeCasts_S16_S1x16) h5
  have hH : ∀ c : Dev Cert.KernelIdeal.nD, Val.Normal (Cert.KernelIdeal.Gen.V m c Cert.KernelIdeal.main_v2) := by
    intro c
    haveI := Val.pre_facts
    rw [Val.k_v2]
    exact Val.fin_of_pre _ _ _ _ _ _ (hpre c)
  refine ⟨fun c => Ref.res (Cert.KernelIdeal.Gen.V m c Cert.KernelIdeal.main_arg0) (Cert.KernelIdeal.Gen.V m c Cert.KernelIdeal.main_arg1) (Cert.KernelIdeal.Gen.V m c Cert.KernelIdeal.main_v0) (Cert.KernelIdeal.Gen.V m c Cert.KernelIdeal.main_arg3),
    fun c => Ref.amax (Cert.KernelIdeal.Gen.V m c Cert.KernelIdeal.main_arg0) (Cert.KernelIdeal.Gen.V m c Cert.KernelIdeal.main_arg1) (Cert.KernelIdeal.Gen.V m c Cert.KernelIdeal.main_v0) (Cert.KernelIdeal.Gen.V m c Cert.KernelIdeal.main_arg3) (Cert.KernelIdeal.Gen.V m c Cert.KernelIdeal.main_v1),
    fun c => Ref.hist (Cert.KernelIdeal.Gen.V m c Cert.KernelIdeal.main_arg0) (Cert.KernelIdeal.Gen.V m c Cert.KernelIdeal.main_arg1) (Cert.KernelIdeal.Gen.V m c Cert.KernelIdeal.main_v0) (Cert.KernelIdeal.Gen.V m c Cert.KernelIdeal.main_arg3) (Cert.KernelIdeal.Gen.V m c Cert.KernelIdeal.main_v1) (Cert.KernelIdeal.Gen.V m c Cert.KernelIdeal.main_v2),
    fun c => Ref.codes (Cert.KernelIdeal.Gen.V m c Cert.KernelIdeal.main_arg0) (Cert.KernelIdeal.Gen.V m c Cert.KernelIdeal.main_arg1) (Cert.KernelIdeal.Gen.V m c Cert.KernelIdeal.main_v0) (Cert.KernelIdeal.Gen.V m c Cert.KernelIdeal.main_arg3) (Cert.KernelIdeal.Gen.V m c Cert.KernelIdeal.main_v1) (Cert.KernelIdeal.Gen.V m c Cert.KernelIdeal.main_v2),
    fun c => Ref.scale (Cert.KernelIdeal.Gen.V m c Cert.KernelIdeal.main_v2), ?_, ?_⟩
  · refine (θ_run _ _ _).mono (fun r h c => ?_) (Run.whole m g)
    obtain ⟨⟨h0, h1, h2, h3, h4⟩, hk⟩ := h.1 c
    exact ⟨h0.trans (Val.result0 _ _ _ _ _ _), h1.trans (Val.result1 _ _ _ _ _ _), h2.trans (Val.result2 _ _ _ _ _ _),
      h3.trans (Val.result3 _ _ _ _ _ _ (hH c)), h4.trans (Val.scale_eq _ (hH c)), hk⟩
  · refine (θ_run _ _ _).mono (fun r h c => ?_) (Ref.run m' g')
    obtain ⟨h0, h1, h2, h3, h4, hk⟩ := h c
    obtain ⟨e0, e1, e2, e3, e4, e5⟩ := hV c
    rw [e0, e1, e2, e3] at h0
    rw [e0, e1, e2, e3, e4] at h1
    rw [e0, e1, e2, e3, e4, e5] at h2 h3
    rw [e5] at h4
    exact ⟨h0, h1, h2, h3, h4, hk⟩

theorem claim : Cert.Claim :=
  ⟨Cert.Kernel.Gen.facts, Cert.KernelIdeal.Gen.facts, Cert.ReferenceIdeal.Gen.facts, Val.pre_facts,
    fun m g _ => Run.frame_Kernel m g,
    fun m g _ => Run.frame m g,
    fun m g _ => Run.frame m g,
    fun m g _ => Cert.ReferenceIdeal.Gen.frame m g,
    fun m g _ => Cert.ReferenceIdeal.Gen.frame m g,
    trivial,
    algebraic⟩

end Cert.Proof

end
